-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S320000x2 : Shape := ⟨2, ![320000, 2]⟩
abbrev S320000x1 : Shape := ⟨2, ![320000, 1]⟩
abbrev S320000 : Shape := ⟨1, ![320000]⟩
abbrev S_ : Shape := ⟨0, ![]⟩
abbrev S10000 : Shape := ⟨1, ![10000]⟩
abbrev S10000x1 : Shape := ⟨2, ![10000, 1]⟩
abbrev S1 : Shape := ⟨1, ![1]⟩
abbrev S1x1 : Shape := ⟨2, ![1, 1]⟩
abbrev S320000x128 : Shape := ⟨2, ![320000, 128]⟩
abbrev S128x10000 : Shape := ⟨2, ![128, 10000]⟩
abbrev S128x10240 : Shape := ⟨2, ![128, 10240]⟩
abbrev S128x128 : Shape := ⟨2, ![128, 128]⟩
abbrev S1x10240 : Shape := ⟨2, ![1, 10240]⟩
abbrev S1x128 : Shape := ⟨2, ![1, 128]⟩
abbrev S128x1 : Shape := ⟨2, ![128, 1]⟩
abbrev S1x1x10240 : Shape := ⟨3, ![1, 1, 10240]⟩
abbrev S1x1x1 : Shape := ⟨3, ![1, 1, 1]⟩
abbrev S10000x10000 : Shape := ⟨2, ![10000, 10000]⟩
abbrev S128x512 : Shape := ⟨2, ![128, 512]⟩
abbrev S512x512 : Shape := ⟨2, ![512, 512]⟩

abbrev nBuf : Space → Nat
  | .hbm => 74
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S320000x1, .i32⟩
  | .hbm, ⟨3, _⟩ => ⟨S320000, .i32⟩
  | .hbm, ⟨4, _⟩ => ⟨S320000x1, .i32⟩
  | .hbm, ⟨5, _⟩ => ⟨S320000, .i32⟩
  | .hbm, ⟨6, _⟩ => ⟨S_, .f32⟩
  | .hbm, ⟨7, _⟩ => ⟨S320000, .f32⟩
  | .hbm, ⟨8, _⟩ => ⟨S_, .f32⟩
  | .hbm, ⟨9, _⟩ => ⟨S10000, .f32⟩
  | .hbm, ⟨10, _⟩ => ⟨S320000x1, .i32⟩
  | .hbm, ⟨11, _⟩ => ⟨S10000, .f32⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S1, .i32⟩
  | .hbm, ⟨27, _⟩ => ⟨S_, .i32⟩
  | .hbm, ⟨28, _⟩ => ⟨S320000x1, .i32⟩
  | .hbm, ⟨29, _⟩ => ⟨S320000x1, .i1⟩
  | .hbm, ⟨30, _⟩ => ⟨S1x1, .i32⟩
  | .hbm, ⟨31, _⟩ => ⟨S320000x1, .i32⟩
  | .hbm, ⟨32, _⟩ => ⟨S320000x1, .i1⟩
  | .hbm, ⟨33, _⟩ => ⟨S320000x1, .i1⟩
  | .hbm, ⟨34, _⟩ => ⟨S_, .i1⟩
  | .hbm, ⟨35, _⟩ => ⟨S320000, .i1⟩
  | .hbm, ⟨36, _⟩ => ⟨S320000x128, .f32⟩
  | .hbm, ⟨37, _⟩ => ⟨S320000x128, .i1⟩
  | .hbm, ⟨38, _⟩ => ⟨S_, .f32⟩
  | .hbm, ⟨39, _⟩ => ⟨S320000x128, .f32⟩
  | .hbm, ⟨40, _⟩ => ⟨S320000x128, .f32⟩
  | .hbm, ⟨41, _⟩ => ⟨S_, .f32⟩
  | .hbm, ⟨42, _⟩ => ⟨S10000x128, .f32⟩
  | .hbm, ⟨43, _⟩ => ⟨S320000x1, .i32⟩
  | .hbm, ⟨44, _⟩ => ⟨S10000x128, .f32⟩
  | .hbm, ⟨45, _⟩ => ⟨S10000x1, .f32⟩
  | .hbm, ⟨46, _⟩ => ⟨S_, .f32⟩
  | .hbm, ⟨47, _⟩ => ⟨S10000x1, .f32⟩
  | .hbm, ⟨48, _⟩ => ⟨S10000x1, .i1⟩
  | .hbm, ⟨49, _⟩ => ⟨S10000x1, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S_, .f32⟩
  | .hbm, ⟨54, _⟩ => ⟨S10000x128, .i1⟩
  | .hbm, ⟨55, _⟩ => ⟨S10000x128, .f32⟩
  | .hbm, ⟨56, _⟩ => ⟨S10000x128, .f32⟩
  | .hbm, ⟨57, _⟩ => ⟨S10000x1, .f32⟩
  | .hbm, ⟨58, _⟩ => ⟨S_, .f32⟩
  | .hbm, ⟨59, _⟩ => ⟨S10000x1, .f32⟩
  | .hbm, ⟨60, _⟩ => ⟨S10000x1, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S128x10000, .f32⟩
  | .hbm, ⟨68, _⟩ => ⟨S_, .i32⟩
  | .hbm, ⟨69, _⟩ => ⟨S_, .f32⟩
  | .hbm, ⟨70, _⟩ => ⟨S128x10240, .f32⟩
  | .hbm, ⟨71, _⟩ => ⟨S128x10240, .f32⟩
  | .hbm, ⟨72, _⟩ => ⟨S128x10240, .f32⟩
  | .hbm, ⟨73, _⟩ => ⟨S10000x10000, .f32⟩
  | .local _ .vmem, ⟨0, _⟩ => ⟨S128x10240, .f32⟩
  | .local _ .vmem, ⟨1, _⟩ => ⟨S128x10240, .f32⟩
  | .local _ .vmem, ⟨2, _⟩ => ⟨S128x10240, .f32⟩
  | .local _ .vmem, ⟨3, _⟩ => ⟨S128x10240, .f32⟩
  | .local _ .vmem, ⟨4, _⟩ => ⟨S128x128, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S512x512, .f32⟩
  | .local _ .vmem, ⟨10, _⟩ => ⟨S512x512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c : Ref sig .tc := ⟨.hbm, 68, rfl⟩
abbrev main_call2_v0 : Ref sig .tc := ⟨.hbm, 69, rfl⟩
abbrev main_v33 : Ref sig .tc := ⟨.hbm, 70, rfl⟩
abbrev main_v34_0 : Ref sig .tc := ⟨.hbm, 71, rfl⟩
abbrev main_v34_1 : Ref sig .tc := ⟨.hbm, 72, rfl⟩
abbrev main_v35 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v14 : BitVec 32 := Scalar.addi c0_i32 c128_i32
  let c1_i32 : BitVec 32 := 1#32
  ⟨c0_i32, v14, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v20 : Index := Scalar.indexCast arg5
  let c0_16 : Index := 0#32
  ![v20.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v92 : Index := Scalar.indexCast arg5
  let c0_48 : Index := 0#32
  ![v92.toNat, 0]
abbrev stage0_0 : Fin 1 → Memref sig .tc .vmem S128x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![20, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S10000x128 : Shape := ⟨2, ![10000, 128]⟩
abbrev S320000x2 : Shape := ⟨2, ![320000, 2]⟩
abbrev S320000x1 : Shape := ⟨2, ![320000, 1]⟩
abbrev S320000 : Shape := ⟨1, ![320000]⟩
abbrev S_ : Shape := ⟨0, ![]⟩
abbrev S1 : Shape := ⟨1, ![1]⟩
abbrev S1x1 : Shape := ⟨2, ![1, 1]⟩
abbrev S320000x128 : Shape := ⟨2, ![320000, 128]⟩
abbrev S10000 : Shape := ⟨1, ![10000]⟩
abbrev S10000x1 : Shape := ⟨2, ![10000, 1]⟩
abbrev S10000x10000 : Shape := ⟨2, ![10000, 10000]⟩
abbrev S128 : Shape := ⟨1, ![128]⟩
abbrev S1x128 : Shape := ⟨2, ![1, 128]⟩
abbrev S1x10000 : Shape := ⟨2, ![1, 10000]⟩

abbrev nBuf : Space → Nat
  | .hbm => 260
  | .vmem => 0
  | .smem => 0
  | _ => 0

abbrev hbmTy0_0 (i : Nat) : BufTy := match i % 128 with
  | 0 => ⟨S10000x128, .f32⟩
  | 1 => ⟨S320000x2, .i32⟩
  | 2 => ⟨S320000x1, .i32⟩
  | 3 => ⟨S320000, .i32⟩
  | 4 => ⟨S320000x1, .i32⟩
  | 5 => ⟨S320000, .i32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S1, .i32⟩
  | 15 => ⟨S_, .i32⟩
  | 16 => ⟨S320000x1, .i32⟩
  | 17 => ⟨S320000x1, .i1⟩
  | 18 => ⟨S1x1, .i32⟩
  | 19 => ⟨S320000x1, .i32⟩
  | 20 => ⟨S320000x1, .i1⟩
  | 21 => ⟨S320000x1, .i1⟩
  | 22 => ⟨S_, .i1⟩
  | 23 => ⟨S320000, .i1⟩
  | 24 => ⟨S320000x128, .f32⟩
  | 25 => ⟨S320000x128, .i1⟩
  | 26 => ⟨S_, .f32⟩
  | 27 => ⟨S320000x128, .f32⟩
  | 28 => ⟨S320000x128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1, .i32⟩
  | 38 => ⟨S_, .i32⟩
  | 39 => ⟨S320000x1, .i32⟩
  | 40 => ⟨S320000x1, .i1⟩
  | 41 => ⟨S1x1, .i32⟩
  | 42 => ⟨S320000x1, .i32⟩
  | 43 => ⟨S320000x1, .i1⟩
  | 44 => ⟨S320000x1, .i1⟩
  | 45 => ⟨S_, .i1⟩
  | 46 => ⟨S320000, .i1⟩
  | 47 => ⟨S320000x128, .f32⟩
  | 48 => ⟨S320000x128, .i1⟩
  | 49 => ⟨S_, .f32⟩
  | 50 => ⟨S320000x128, .f32⟩
  | 51 => ⟨S320000x128, .f32⟩
  | 52 => ⟨S_, .f32⟩
  | 53 => ⟨S320000, .f32⟩
  | 54 => ⟨S_, .f32⟩
  | 55 => ⟨S10000, .f32⟩
  | 56 => ⟨S320000x1, .i32⟩
  | 57 => ⟨S10000, .f32⟩
  | 58 => ⟨S_, .f32⟩
  | 59 => ⟨S10000, .f32⟩
  | 60 => ⟨S10000, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S1, .i32⟩
  | 70 => ⟨S_, .i32⟩
  | 71 => ⟨S320000x1, .i32⟩
  | 72 => ⟨S320000x1, .i1⟩
  | 73 => ⟨S1x1, .i32⟩
  | 74 => ⟨S320000x1, .i32⟩
  | 75 => ⟨S320000x1, .i1⟩
  | 76 => ⟨S320000x1, .i1⟩
  | 77 => ⟨S_, .i1⟩
  | 78 => ⟨S320000, .i1⟩
  | 79 => ⟨S320000, .f32⟩
  | 80 => ⟨S_, .f32⟩
  | 81 => ⟨S320000, .f32⟩
  | 82 => ⟨S320000, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S1, .i32⟩
  | 92 => ⟨S_, .i32⟩
  | 93 => ⟨S320000x1, .i32⟩
  | 94 => ⟨S320000x1, .i1⟩
  | 95 => ⟨S1x1, .i32⟩
  | 96 => ⟨S320000x1, .i32⟩
  | 97 => ⟨S320000x1, .i1⟩
  | 98 => ⟨S320000x1, .i1⟩
  | 99 => ⟨S_, .i1⟩
  | 100 => ⟨S320000, .i1⟩
  | 101 => ⟨S320000, .f32⟩
  | 102 => ⟨S_, .f32⟩
  | 103 => ⟨S320000, .f32⟩
  | 104 => ⟨S320000, .f32⟩
  | 105 => ⟨S320000x1, .f32⟩
  | 106 => ⟨S320000x128, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S1, .i32⟩
  | 116 => ⟨S_, .i32⟩
  | 117 => ⟨S320000x1, .i32⟩
  | 118 => ⟨S320000x1, .i1⟩
  | 119 => ⟨S1x1, .i32⟩
  | 120 => ⟨S320000x1, .i32⟩
  | 121 => ⟨S320000x1, .i1⟩
  | 122 => ⟨S320000x1, .i1⟩
  | 123 => ⟨S_, .i1⟩
  | 124 => ⟨S320000, .i1⟩
  | 125 => ⟨S320000, .f32⟩
  | 126 => ⟨S_, .f32⟩
  | 127 => ⟨S320000, .f32⟩
  | _ => ⟨S10000x128, .f32⟩

abbrev hbmTy0_1 (i : Nat) : BufTy := match i % 128 with
  | 0 => ⟨S320000, .f32⟩
  | 1 => ⟨S320000x1, .f32⟩
  | 2 => ⟨S320000x128, .f32⟩
  | 3 => ⟨S320000x128, .f32⟩
  | 4 => ⟨S320000x1, .f32⟩
  | 5 => ⟨S320000x128, .f32⟩
  | 6 => ⟨S320000x128, .f32⟩
  | 7 => ⟨S_, .f32⟩
  | 8 => ⟨S10000x128, .f32⟩
  | 9 => ⟨S320000x1, .i32⟩
  | 10 => ⟨S10000x128, .f32⟩
  | 11 => ⟨S_, .f32⟩
  | 12 => ⟨S10000x128, .f32⟩
  | 13 => ⟨S10000x128, .f32⟩
  | 14 => ⟨S320000x128, .f32⟩
  | 15 => ⟨S_, .f32⟩
  | 16 => ⟨S10000x128, .f32⟩
  | 17 => ⟨S320000x1, .i32⟩
  | 18 => ⟨S10000x128, .f32⟩
  | 19 => ⟨S10000x1, .f32⟩
  | 20 => ⟨S_, .f32⟩
  | 21 => ⟨S10000x1, .f32⟩
  | 22 => ⟨S10000x1, .i1⟩
  | 23 => ⟨S_, .f32⟩
  | 24 => ⟨S10000x1, .f32⟩
  | 25 => ⟨S10000x1, .f32⟩
  | 26 => ⟨S10000x128, .f32⟩
  | 27 => ⟨S10000x128, .f32⟩
  | 28 => ⟨S_, .f32⟩
  | 29 => ⟨S_, .f32⟩
  | 30 => ⟨S10000x128, .i1⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S10000x128, .f32⟩
  | 37 => ⟨S10000, .i32⟩
  | 38 => ⟨S10000x10000, .i32⟩
  | 39 => ⟨S10000x10000, .i32⟩
  | 40 => ⟨S_, .i32⟩
  | 41 => ⟨S10000x10000, .i32⟩
  | 42 => ⟨S10000x10000, .i32⟩
  | 43 => ⟨S10000x10000, .i1⟩
  | 44 => ⟨S10000x10000, .f32⟩
  | 45 => ⟨S_, .i32⟩
  | 46 => ⟨S_, .i32⟩
  | 47 => ⟨S10000, .i32⟩
  | 48 => ⟨S_, .i32⟩
  | 49 => ⟨S_, .i32⟩
  | 50 => ⟨S10000x128, .f32⟩
  | 51 => ⟨S10000x10000, .f32⟩
  | 52 => ⟨S_, .i32⟩
  | 53 => ⟨S_, .i1⟩
  | 54 => ⟨S_, .i32⟩
  | 55 => ⟨S_, .i32⟩
  | 56 => ⟨S_, .i32⟩
  | 57 => ⟨S10000, .i32⟩
  | 58 => ⟨S10000, .i1⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S10000x1, .f32⟩
  | 67 => ⟨S10000, .f32⟩
  | 68 => ⟨S_, .f32⟩
  | 69 => ⟨S_, .f32⟩
  | 70 => ⟨S10000, .f32⟩
  | 71 => ⟨S10000, .f32⟩
  | 72 => ⟨S_, .i32⟩
  | 73 => ⟨S10000, .i32⟩
  | 74 => ⟨S10000, .i1⟩
  | 75 => ⟨S_, .f32⟩
  | 76 => ⟨S_, .f32⟩
  | 77 => ⟨S10000, .f32⟩
  | 78 => ⟨S10000, .f32⟩
  | 79 => ⟨S_, .f32⟩
  | 80 => ⟨S_, .f32⟩
  | 81 => ⟨S10000, .f32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .i32⟩
  | 100 => ⟨S10000, .i32⟩
  | 101 => ⟨S10000, .i1⟩
  | 102 => ⟨S_, .f32⟩
  | 103 => ⟨S_, .f32⟩
  | 104 => ⟨S_, .f32⟩
  | 105 => ⟨S_, .f32⟩
  | 106 => ⟨S10000, .f32⟩
  | 107 => ⟨S10000, .f32⟩
  | 108 => ⟨S_, .f32⟩
  | 109 => ⟨S_, .f32⟩
  | 110 => ⟨S10000, .f32⟩
  | 111 => ⟨S10000, .f32⟩
  | 112 => ⟨S10000x1, .f32⟩
  | 113 => ⟨S128, .f32⟩
  | 114 => ⟨S1x128, .f32⟩
  | 115 => ⟨S10000x128, .f32⟩
  | 116 => ⟨S10000x128, .f32⟩
  | 117 => ⟨S10000x128, .f32⟩
  | 118 => ⟨S10000x128, .f32⟩
  | 119 => ⟨S10000x128, .f32⟩
  | 120 => ⟨S10000x128, .f32⟩
  | 121 => ⟨S10000, .f32⟩
  | 122 => ⟨S10000x1, .f32⟩
  | 123 => ⟨S1x10000, .f32⟩
  | 124 => ⟨S10000x10000, .f32⟩
  | 125 => ⟨S10000x10000, .f32⟩
  | 126 => ⟨S10000x10000, .f32⟩
  | 127 => ⟨S10000x10000, .f32⟩
  | _ => ⟨S10000x128, .f32⟩

abbrev hbmTy0_2 (i : Nat) : BufTy := match i % 128 with
  | 0 => ⟨S10000x10000, .f32⟩
  | 1 => ⟨S10000x10000, .f32⟩
  | 2 => ⟨S_, .i32⟩
  | 3 => ⟨S_, .i32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_c_13 : Ref sig .tc := ⟨.hbm, 61, rfl⟩
abbrev main_v44 : Ref sig .tc := ⟨.hbm, 62, rfl⟩
abbrev main_v45 : Ref sig .tc := ⟨.hbm, 63, rfl⟩
abbrev main_c_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_15 : Ref sig .tc := ⟨.hbm, 69, rfl⟩
abbrev main_c_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_c_19 : Ref sig .tc := ⟨.hbm, 83, rfl⟩
abbrev main_v60 : Ref sig .tc := ⟨.hbm, 84, rfl⟩
abbrev main_v61 : Ref sig .tc := ⟨.hbm, 85, rfl⟩
abbrev main_c_20 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_21 : Ref sig .tc := ⟨.hbm, 91, rfl⟩
abbrev main_c_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_25 : Ref sig .tc := ⟨.hbm, 107, rfl⟩
abbrev main_v78 : Ref sig .tc := ⟨.hbm, 108, rfl⟩
abbrev main_v79 : Ref sig .tc := ⟨.hbm, 109, rfl⟩
abbrev main_c_26 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_27 : Ref sig .tc := ⟨.hbm, 115, rfl⟩
abbrev main_c_28 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_29 : Ref sig .tc := ⟨.hbm, 123, rfl⟩
abbrev main_v90 : Ref sig .tc := ⟨.hbm, 124, rfl⟩
abbrev main_v91 : Ref sig .tc := ⟨.hbm, 125, rfl⟩
abbrev main_cst_30 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_31 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_32 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_33 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_34 : Ref sig .tc := ⟨.hbm, 148, rfl⟩
abbrev main_v110 : Ref sig .tc := ⟨.hbm, 149, rfl⟩
abbrev main_v111 : Ref sig .tc := ⟨.hbm, 150, rfl⟩
abbrev main_cst_35 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_36 : Ref sig .tc := ⟨.hbm, 156, rfl⟩
abbrev main_call0_v0 : Ref sig .tc := ⟨.hbm, 157, rfl⟩
abbrev main_call0_v1 : Ref sig .tc := ⟨.hbm, 158, rfl⟩
abbrev main_call0_v2 : Ref sig .tc := ⟨.hbm, 159, rfl⟩
abbrev main_v116 : Ref sig .tc := ⟨.hbm, 160, rfl⟩
abbrev main_cst_37 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_38 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_39 : Ref sig .tc := ⟨.hbm, 173, rfl⟩
abbrev main_c_40 : Ref sig .tc := ⟨.hbm, 174, rfl⟩
abbrev main_v127_0 : Ref sig .tc := ⟨.hbm, 175, rfl⟩
abbrev main_v127_1 : Ref sig .tc := ⟨.hbm, 176, rfl⟩
abbrev main_v127_2 : Ref sig .tc := ⟨.hbm, 177, rfl⟩
abbrev main_v127_3 : Ref sig .tc := ⟨.hbm, 178, rfl⟩
abbrev main_v127_4 : Ref sig .tc := ⟨.hbm, 179, rfl⟩
abbrev main_while0c_c_45 : Ref sig .tc := ⟨.hbm, 180, rfl⟩
abbrev main_while0c_v128 : Ref sig .tc := ⟨.hbm, 181, rfl⟩
abbrev main_while0b_c_45 : Ref sig .tc := ⟨.hbm, 182, rfl⟩
abbrev main_while0b_v128 : Ref sig .tc := ⟨.hbm, 183, rfl⟩
abbrev main_while0b_v129 : Ref sig .tc := ⟨.hbm, 184, rfl⟩
abbrev main_while0b_v130 : Ref sig .tc := ⟨.hbm, 185, rfl⟩
abbrev main_while0b_v131 : Ref sig .tc := ⟨.hbm, 186, rfl⟩
abbrev main_while0b_c_46 : Ref sig .tc := ⟨.hbm, 187, rfl⟩
abbrev main_while0b_v132 : Ref sig .tc := ⟨.hbm, 188, rfl⟩
abbrev main_while0b_v133 : Ref sig .tc := ⟨.hbm, 189, rfl⟩
abbrev main_while0b_c_47 : Ref sig .tc := ⟨.hbm, 190, rfl⟩
abbrev main_while0b_v134 : Ref sig .tc := ⟨.hbm, 191, rfl⟩
abbrev main_while0b_v135 : Ref sig .tc := ⟨.hbm, 192, rfl⟩
abbrev main_while0b_c_48 : Ref sig .tc := ⟨.hbm, 193, rfl⟩
abbrev main_while0b_v136 : Ref sig .tc := ⟨.hbm, 194, rfl⟩
abbrev main_while0b_v137 : Ref sig .tc := ⟨.hbm, 195, rfl⟩
abbrev main_while0b_cst_49 : Ref sig .tc := ⟨.hbm, 196, rfl⟩
abbrev main_while0b_call1_v0 : Ref sig .tc := ⟨.hbm, 197, rfl⟩
abbrev main_while0b_call1_v1 : Ref sig .tc := ⟨.hbm, 198, rfl⟩
abbrev main_while0b_v138 : Ref sig .tc := ⟨.hbm, 199, rfl⟩
abbrev main_while0b_v139 : Ref sig .tc := ⟨.hbm, 200, rfl⟩
abbrev main_while0b_v140 : Ref sig .tc := ⟨.hbm, 201, rfl⟩
abbrev main_while0b_v141 : Ref sig .tc := ⟨.hbm, 202, rfl⟩
abbrev main_while0b_cst_50 : Ref sig .tc := ⟨.hbm, 203, rfl⟩
abbrev main_while0b_call2_v0 : Ref sig .tc := ⟨.hbm, 204, rfl⟩
abbrev main_while0b_call2_v1 : Ref sig .tc := ⟨.hbm, 205, rfl⟩
abbrev main_while0b_v142 : Ref sig .tc := ⟨.hbm, 206, rfl⟩
abbrev main_while0b_cst_51 : Ref sig .tc := ⟨.hbm, 207, rfl⟩
abbrev main_while0b_v143 : Ref sig .tc := ⟨.hbm, 208, rfl⟩
abbrev main_while0b_v144 : Ref sig .tc := ⟨.hbm, 209, rfl⟩
abbrev main_while0b_cst_52 : Ref sig .tc := ⟨.hbm, 210, rfl⟩
abbrev main_while0b_v145 : Ref sig .tc := ⟨.hbm, 211, rfl⟩
abbrev main_while0b_v146 : Ref sig .tc := ⟨.hbm, 212, rfl⟩
abbrev main_while0b_cst_53 : Ref sig .tc := ⟨.hbm, 213, rfl⟩
abbrev main_while0b_v147 : Ref sig .tc := ⟨.hbm, 214, rfl⟩
abbrev main_while0b_v148 : Ref sig .tc := ⟨.hbm, 215, rfl⟩
abbrev main_while0b_v149 : Ref sig .tc := ⟨.hbm, 216, rfl⟩
abbrev main_while0b_cst_54 : Ref sig .tc := ⟨.hbm, 217, rfl⟩
abbrev main_while0b_v150 : Ref sig .tc := ⟨.hbm, 218, rfl⟩
abbrev main_while0b_v151 : Ref sig .tc := ⟨.hbm, 219, rfl⟩
abbrev main_while0b_cst_55 : Ref sig .tc := ⟨.hbm, 220, rfl⟩
abbrev main_while0b_call4_v0 : Ref sig .tc := ⟨.hbm, 221, rfl⟩
abbrev main_while0b_v152 : Ref sig .tc := ⟨.hbm, 222, rfl⟩
abbrev main_while0b_v153 : Ref sig .tc := ⟨.hbm, 223, rfl⟩
abbrev main_while0b_cst_56 : Ref sig .tc := ⟨.hbm, 224, rfl⟩
abbrev main_while0b_call5_v0 : Ref sig .tc := ⟨.hbm, 225, rfl⟩
abbrev main_while0b_v154 : Ref sig .tc := ⟨.hbm, 226, rfl⟩
abbrev main_while0b_v155 : Ref sig .tc := ⟨.hbm, 227, rfl⟩
abbrev main_while0b_v156 : Ref sig .tc := ⟨.hbm, 228, rfl⟩
abbrev main_while0b_v157 : Ref sig .tc := ⟨.hbm, 229, rfl⟩
abbrev main_while0b_v158 : Ref sig .tc := ⟨.hbm, 230, rfl⟩
abbrev main_while0b_cst_57 : Ref sig .tc := ⟨.hbm, 231, rfl⟩
abbrev main_while0b_call6_v0 : Ref sig .tc := ⟨.hbm, 232, rfl⟩
abbrev main_while0b_v159 : Ref sig .tc := ⟨.hbm, 233, rfl⟩
abbrev main_while0b_v160 : Ref sig .tc := ⟨.hbm, 234, rfl⟩
abbrev main_while0b_v161 : Ref sig .tc := ⟨.hbm, 235, rfl⟩
abbrev main_while0b_cst_58 : Ref sig .tc := ⟨.hbm, 236, rfl⟩
abbrev main_while0b_call7_v0 : Ref sig .tc := ⟨.hbm, 237, rfl⟩
abbrev main_while0b_call7_v1 : Ref sig .tc := ⟨.hbm, 238, rfl⟩
abbrev main_while0b_v162 : Ref sig .tc := ⟨.hbm, 239, rfl⟩
abbrev main_while0b_v163 : Ref sig .tc := ⟨.hbm, 240, rfl⟩
abbrev main_while0b_v164 : Ref sig .tc := ⟨.hbm, 241, rfl⟩
abbrev main_while0b_v165 : Ref sig .tc := ⟨.hbm, 242, rfl⟩
abbrev main_while0b_v166 : Ref sig .tc := ⟨.hbm, 243, rfl⟩
abbrev main_while0b_v167 : Ref sig .tc := ⟨.hbm, 244, rfl⟩
abbrev main_while0b_v168 : Ref sig .tc := ⟨.hbm, 245, rfl⟩
abbrev main_while0b_v169 : Ref sig .tc := ⟨.hbm, 246, rfl⟩
abbrev main_while0b_v170 : Ref sig .tc := ⟨.hbm, 247, rfl⟩
abbrev main_while0b_v171 : Ref sig .tc := ⟨.hbm, 248, rfl⟩
abbrev main_while0b_v172 : Ref sig .tc := ⟨.hbm, 249, rfl⟩
abbrev main_while0b_v173 : Ref sig .tc := ⟨.hbm, 250, rfl⟩
abbrev main_while0b_v174 : Ref sig .tc := ⟨.hbm, 251, rfl⟩
abbrev main_while0b_v175 : Ref sig .tc := ⟨.hbm, 252, rfl⟩
abbrev main_while0b_v176 : Ref sig .tc := ⟨.hbm, 253, rfl⟩
abbrev main_while0b_v177 : Ref sig .tc := ⟨.hbm, 254, rfl⟩
abbrev main_while0b_v178 : Ref sig .tc := ⟨.hbm, 255, rfl⟩
abbrev main_while0b_v179 : Ref sig .tc := ⟨.hbm, 256, rfl⟩
abbrev main_while0b_v180 : Ref sig .tc := ⟨.hbm, 257, rfl⟩
abbrev main_while0b_c_59 : Ref sig .tc := ⟨.hbm, 258, rfl⟩
abbrev main_while0b_v181 : Ref sig .tc := ⟨.hbm, 259, rfl⟩

abbrev nD : Nat := 1
abbrev τ : Topo := Topo.v7x

variable {F : FTy → Type} [FloatOps F]

abbrev main_while0_count : Scf.Loop 32 := ⟨0#32, 128#32, 1#32⟩
-- ==== Proof.Qr.Sim.lean ====
/- Extended reals compared up to the sign of an infinity. The reflections of a Householder factorization treat the two
   infinities alike, so a matrix that is known up to this relation already fixes every reflector. -/
module

public import Mathlib.Data.EReal.Inv
public import Mathlib.Algebra.BigOperators.Group.Finset.Basic

@[expose] public section

noncomputable section

namespace Cert.Qr

/-- `x` is one of the two infinities. -/
def Inf (x : EReal) : Prop := x = ⊤ ∨ x = ⊥

/-- `x` and `y` are equal, or both are infinite. -/
def Sim (x y : EReal) : Prop := x = y ∨ (Inf x ∧ Inf y)

theorem Sim.refl (x : EReal) : Sim x x := .inl rfl

theorem Sim.of_eq {x y : EReal} (h : x = y) : Sim x y := .inl h

theorem Sim.symm {x y : EReal} (h : Sim x y) : Sim y x := h.imp Eq.symm And.symm

theorem not_inf_coe (r : ℝ) : ¬ Inf (r : EReal) := by
  rintro (h | h)
  · exact EReal.coe_ne_top r h
  · exact EReal.coe_ne_bot r h

theorem exists_coe_of_not_inf {x : EReal} (h : ¬ Inf x) : ∃ r : ℝ, x = (r : EReal) := by
  induction x with
  | bot => exact absurd (.inr rfl) h
  | top => exact absurd (.inl rfl) h
  | coe r => exact ⟨r, rfl⟩

theorem Sim.inf_iff {x y : EReal} (h : Sim x y) : Inf x ↔ Inf y := by
  rcases h with rfl | ⟨hx, hy⟩
  · rfl
  · exact ⟨fun _ => hy, fun _ => hx⟩

theorem Sim.eq_of_not_inf {x y : EReal} (h : Sim x y) (hx : ¬ Inf x) : x = y :=
  h.resolve_right fun h' => hx h'.1

theorem Inf.add_coe {x : EReal} (h : Inf x) (r : ℝ) : Inf (x + r) := by
  rcases h with rfl | rfl
  · exact .inl (EReal.top_add_coe r)
  · exact .inr (EReal.bot_add _)

theorem Inf.neg {x : EReal} (h : Inf x) : Inf (-x) := by
  rcases h with rfl | rfl
  · exact .inr rfl
  · exact .inl rfl

theorem Inf.add {x y : EReal} (hx : Inf x) (hy : Inf y) : Inf (x + y) := by
  rcases hx with rfl | rfl <;> rcases hy with rfl | rfl <;> simp [Inf]

theorem Inf.mul_coe {x : EReal} (h : Inf x) {r : ℝ} (hr : r ≠ 0) : Inf (x * r) := by
  rcases lt_or_gt_of_ne hr with h0 | h0
  · rcases h with rfl | rfl
    · exact .inr (EReal.top_mul_coe_of_neg h0)
    · exact .inl (EReal.bot_mul_coe_of_neg h0)
  · rcases h with rfl | rfl
    · exact .inl (EReal.top_mul_coe_of_pos h0)
    · exact .inr (EReal.bot_mul_coe_of_pos h0)

theorem Inf.mul {x y : EReal} (hx : Inf x) (hy : Inf y) : Inf (x * y) := by
  rcases hx with rfl | rfl <;> rcases hy with rfl | rfl <;> simp [Inf]

theorem Sim.add_right {x y : EReal} (h : Sim x y) (z : EReal) : Sim (x + z) (y + z) := by
  rcases h with rfl | ⟨hx, hy⟩
  · exact .refl _
  · by_cases hz : Inf z
    · exact .inr ⟨hx.add hz, hy.add hz⟩
    · obtain ⟨r, rfl⟩ := exists_coe_of_not_inf hz
      exact .inr ⟨hx.add_coe r, hy.add_coe r⟩

theorem Sim.mul_right {x y : EReal} (h : Sim x y) (z : EReal) : Sim (x * z) (y * z) := by
  rcases h with rfl | ⟨hx, hy⟩
  · exact .refl _
  · by_cases hz : Inf z
    · exact .inr ⟨hx.mul hz, hy.mul hz⟩
    · obtain ⟨r, rfl⟩ := exists_coe_of_not_inf hz
      by_cases hr : r = 0
      · subst hr; exact .inl (by simp)
      · exact .inr ⟨hx.mul_coe hr, hy.mul_coe hr⟩

theorem Sim.trans {x y z : EReal} (h : Sim x y) (h' : Sim y z) : Sim x z := by
  rcases h with rfl | ⟨hx, hy⟩
  · exact h'
  · exact .inr ⟨hx, h'.inf_iff.mp hy⟩

theorem Sim.add {x y z w : EReal} (h : Sim x y) (h' : Sim z w) : Sim (x + z) (y + w) :=
  (h.add_right z).trans (by rw [add_comm y, add_comm y]; exact h'.add_right y)

theorem Sim.mul {x y z w : EReal} (h : Sim x y) (h' : Sim z w) : Sim (x * z) (y * w) :=
  (h.mul_right z).trans (by rw [mul_comm y, mul_comm y]; exact h'.mul_right y)

theorem Sim.neg {x y : EReal} (h : Sim x y) : Sim (-x) (-y) := by
  rcases h with rfl | ⟨hx, hy⟩
  · exact .refl _
  · exact .inr ⟨hx.neg, hy.neg⟩

theorem Sim.sub {x y z w : EReal} (h : Sim x y) (h' : Sim z w) : Sim (x - z) (y - w) := by
  rw [sub_eq_add_neg, sub_eq_add_neg]; exact h.add h'.neg

theorem Sim.sum {ι : Type*} (s : Finset ι) {f g : ι → EReal} (h : ∀ i ∈ s, Sim (f i) (g i)) :
    Sim (∑ i ∈ s, f i) (∑ i ∈ s, g i) := by
  classical
  induction s using Finset.induction_on with
  | empty => exact .refl _
  | insert a s ha ih =>
    rw [Finset.sum_insert ha, Finset.sum_insert ha]
    exact (h a (Finset.mem_insert_self a s)).add (ih fun i hi => h i (Finset.mem_insert_of_mem hi))

/-- A nonnegative real multiplies into a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The sum of a family of reals is the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Qr

end
-- ==== Proof.Qr.Reflector.lean ====
/- The Householder reflector of a column of extended reals. Its entries and its coefficient are real numbers whatever the
   column, and the column matters only up to the sign of its infinite entries. -/
module

public import proofs.«01_k».proof.Proof.Qr.Sim
public import Idealize.ShloMosaic.PureOps.Ideal

@[expose] public section

noncomputable section

namespace Cert.Qr

open Idealize.ShloMosaic

/-- The new leading entry: the column's norm with the sign opposite to the pivot's. -/
def beta (a n2 : EReal) : EReal := if 0 ≤ a then 0 - Ideal.sqrt n2 else Ideal.sqrt n2

/-- The coefficient of the reflection, of the pivot and the squared norm. -/
def tauOf (a n2 : EReal) : EReal :=
  if 0 < n2 then Ideal.div (beta a n2 - a) (if beta a n2 = 0 then 1 else beta a n2) else 0

/-- The divisor of the column. -/
def denOf (a n2 : EReal) : EReal := if a - beta a n2 = 0 then 1 else a - beta a n2

section

variable {ι : Type*} [Fintype ι] [DecidableEq ι]

/-- The sum of the squares of a column. -/
def sq (x : ι → EReal) : EReal := ∑ i, x i * x i

/-- The coefficient of the reflection of the column `x` with pivot `p`. -/
def tau (x : ι → EReal) (p : ι) : EReal := tauOf (x p) (sq x)

/-- The reflector of the column `x` with pivot `p`: one at the pivot. -/
def refl (x : ι → EReal) (p i : ι) : EReal := if i = p then 1 else Ideal.div (x i) (denOf (x p) (sq x))

theorem mul_self_nonneg (x : EReal) : 0 ≤ x * x := by
  induction x with
  | bot => simp
  | top => simp
  | coe r => rw [← EReal.coe_mul]; exact_mod_cast _root_.mul_self_nonneg r

theorem sq_nonneg (x : ι → EReal) : 0 ≤ sq x := Finset.sum_nonneg fun i _ => mul_self_nonneg (x i)

theorem sq_eq_top {x : ι → EReal} {i : ι} (h : Inf (x i)) : sq x = ⊤ := by
  refine top_le_iff.mp ?_
  have h1 : x i * x i = ⊤ := by rcases h with h | h <;> rw [h] <;> simp
  rw [← h1]
  exact Finset.single_le_sum (f := fun i => x i * x i) (fun i _ => mul_self_nonneg (x i)) (Finset.mem_univ i)

theorem inf_inv {x : EReal} (h : Inf x) : x⁻¹ = 0 := by rcases h with h | h <;> rw [h] <;> simp

theorem inf_ne_zero {x : EReal} (h : Inf x) : x ≠ 0 := by rcases h with h | h <;> rw [h] <;> simp

theorem div_inf (x : EReal) {y : EReal} (h : Inf y) : Ideal.div x y = 0 := by
  rw [Ideal.div, if_neg (inf_ne_zero h), inf_inv h, mul_zero]

theorem beta_top (a : EReal) : Inf (beta a ⊤) := by
  unfold beta
  split
  · right; simp
  · left; simp

theorem sub_beta_top (a : EReal) : Inf (a - beta a ⊤) := by
  unfold beta
  split
  · rename_i h
    left
    induction a with
    | bot => simp at h
    | top => simp
    | coe r => simp
  · rename_i h
    right
    induction a with
    | bot => simp
    | top => simp at h
    | coe r => simp

/-- A column with an infinite entry is left where it is. -/
theorem tau_of_inf {x : ι → EReal} {i : ι} (h : Inf (x i)) (p : ι) : tau x p = 0 := by
  unfold tau tauOf
  rw [sq_eq_top h, if_neg (inf_ne_zero (beta_top _)), div_inf _ (beta_top _), ite_self]

theorem refl_of_inf {x : ι → EReal} {i : ι} (h : Inf (x i)) (p k : ι) : refl x p k = if k = p then 1 else 0 := by
  unfold refl denOf
  rw [sq_eq_top h, if_neg (inf_ne_zero (sub_beta_top _)), div_inf _ (sub_beta_top _)]

theorem div_real (x y : ℝ) (hy : y ≠ 0) : ∃ r : ℝ, Ideal.div (x : EReal) (y : EReal) = (r : EReal) :=
  ⟨x * (1 / y), by rw [Ideal.div_coe hy, EReal.coe_mul]⟩

theorem beta_real (a n2 : ℝ) (h : 0 ≤ n2) : ∃ r : ℝ, beta (a : EReal) (n2 : EReal) = (r : EReal) := by
  unfold beta
  rw [Ideal.sqrt_coe, if_neg (not_lt.mpr h)]
  split
  · exact ⟨0 - Real.sqrt n2, by rw [EReal.coe_sub, EReal.coe_zero]⟩
  · exact ⟨_, rfl⟩

theorem tauOf_real (a n2 : ℝ) (h : 0 ≤ n2) : ∃ r : ℝ, tauOf (a : EReal) (n2 : EReal) = (r : EReal) := by
  unfold tauOf
  obtain ⟨b, hb⟩ := beta_real a n2 h
  rw [hb, ← EReal.coe_sub]
  split
  · by_cases h0 : b = 0
    · rw [if_pos (by exact_mod_cast h0)]; exact div_real _ 1 one_ne_zero
    · rw [if_neg (by exact_mod_cast h0)]; exact div_real _ b h0
  · exact ⟨0, rfl⟩

theorem denOf_real (a n2 : ℝ) (h : 0 ≤ n2) : ∃ r : ℝ, r ≠ 0 ∧ denOf (a : EReal) (n2 : EReal) = (r : EReal) := by
  unfold denOf
  obtain ⟨b, hb⟩ := beta_real a n2 h
  rw [hb, ← EReal.coe_sub]
  by_cases h0 : a - b = 0
  · rw [if_pos (by exact_mod_cast h0)]; exact ⟨1, one_ne_zero, rfl⟩
  · rw [if_neg (by exact_mod_cast h0)]; exact ⟨_, h0, rfl⟩

theorem sq_real (x : ι → ℝ) : sq (fun i => (x i : EReal)) = ((∑ i, x i * x i : ℝ) : EReal) := by
  unfold sq
  simp only [← EReal.coe_mul]
  exact sum_coe _ _

/-- Either some entry is infinite or the column is real. -/
theorem inf_or_real (x : ι → EReal) : (∃ i, Inf (x i)) ∨ ∃ r : ι → ℝ, x = fun i => (r i : EReal) := by
  by_cases h : ∃ i, Inf (x i)
  · exact .inl h
  · right
    have h' : ∀ i, ∃ r : ℝ, x i = (r : EReal) := fun i => exists_coe_of_not_inf fun hi => h ⟨i, hi⟩
    choose r hr using h'
    exact ⟨r, funext hr⟩

/-- The coefficient is a real number. -/
theorem tau_real (x : ι → EReal) (p : ι) : ∃ r : ℝ, tau x p = (r : EReal) := by
  rcases inf_or_real x with ⟨i, hi⟩ | ⟨r, rfl⟩
  · exact ⟨0, tau_of_inf hi p⟩
  · unfold tau
    rw [sq_real]
    exact tauOf_real _ _ (Finset.sum_nonneg fun i _ => _root_.mul_self_nonneg (r i))

/-- Every entry of the reflector is a real number. -/
theorem refl_real (x : ι → EReal) (p k : ι) : ∃ r : ℝ, refl x p k = (r : EReal) := by
  rcases inf_or_real x with ⟨i, hi⟩ | ⟨r, rfl⟩
  · rw [refl_of_inf hi]
    split
    · exact ⟨1, rfl⟩
    · exact ⟨0, rfl⟩
  · unfold refl
    rw [sq_real]
    obtain ⟨d, hd, e⟩ := denOf_real (r p) _ (Finset.sum_nonneg fun i _ => _root_.mul_self_nonneg (r i))
    rw [e]
    split
    · exact ⟨1, rfl⟩
    · exact div_real _ d hd

/-- Columns that agree up to the sign of their infinities have one coefficient. -/
theorem tau_congr {x y : ι → EReal} (h : ∀ i, Sim (x i) (y i)) (p : ι) : tau x p = tau y p := by
  by_cases hx : ∃ i, Inf (x i)
  · obtain ⟨i, hi⟩ := hx
    rw [tau_of_inf hi, tau_of_inf ((h i).inf_iff.mp hi)]
  · rw [funext fun i => (h i).eq_of_not_inf fun hi => hx ⟨i, hi⟩]

/-- Columns that agree up to the sign of their infinities have one reflector. -/
theorem refl_congr {x y : ι → EReal} (h : ∀ i, Sim (x i) (y i)) (p k : ι) : refl x p k = refl y p k := by
  by_cases hx : ∃ i, Inf (x i)
  · obtain ⟨i, hi⟩ := hx
    rw [refl_of_inf hi, refl_of_inf ((h i).inf_iff.mp hi)]
  · rw [funext fun i => (h i).eq_of_not_inf fun hi => hx ⟨i, hi⟩]

/-- A column whose squared norm is not positive is zero. -/
theorem eq_zero_of_sq {x : ι → EReal} (h : ¬ 0 < sq x) (i : ι) : x i = 0 := by
  have h0 : sq x = 0 := le_antisymm (not_lt.mp h) (sq_nonneg x)
  have h1 : x i * x i = 0 := le_antisymm (by
    rw [← h0]
    exact Finset.single_le_sum (f := fun i => x i * x i) (fun i _ => mul_self_nonneg (x i)) (Finset.mem_univ i))
    (mul_self_nonneg _)
  exact mul_self_eq_zero.mp h1

theorem sqrt_pos {n2 : EReal} (h : 0 ≤ n2) : 0 < Ideal.sqrt n2 ↔ 0 < n2 := by
  induction n2 with
  | bot => simp at h
  | top => simp
  | coe r =>
    rw [Ideal.sqrt_coe, if_neg (not_lt.mpr (by exact_mod_cast h))]
    have h2 : 0 < Real.sqrt r ↔ 0 < r := Real.sqrt_pos
    exact_mod_cast h2

theorem beta_ne_zero {a n2 : EReal} (h : 0 < Ideal.sqrt n2) : beta a n2 ≠ 0 := by
  unfold beta
  split
  · rw [zero_sub]
    exact fun h' => h.ne' (by simpa using h')
  · exact h.ne'

theorem sub_beta_ne_zero {a n2 : EReal} (h : 0 < Ideal.sqrt n2) : a - beta a n2 ≠ 0 := by
  unfold beta
  split
  · rename_i ha
    rw [zero_sub, sub_eq_add_neg, neg_neg]
    exact (h.trans_le (le_add_of_nonneg_left ha)).ne'
  · rename_i ha
    intro h'
    have : a - Ideal.sqrt n2 ≤ a := by
      calc a - Ideal.sqrt n2 ≤ a - 0 := EReal.sub_le_sub le_rfl h.le
        _ = a := by simp
    rw [h'] at this
    exact ha this

/-- The coefficient as the reference writes it, with the norm's own test in both places. -/
theorem tau_eq (x : ι → EReal) (p : ι) :
    (if 0 < Ideal.sqrt (sq x) then Ideal.div (beta (x p) (sq x) - x p)
      (if 0 < Ideal.sqrt (sq x) then beta (x p) (sq x) else 1) else 0) = tau x p := by
  unfold tau tauOf
  by_cases h : 0 < sq x
  · have h' := (sqrt_pos (sq_nonneg x)).mpr h
    rw [if_pos h', if_pos h', if_pos h, if_neg (beta_ne_zero h')]
  · have h' := fun h' => h ((sqrt_pos (sq_nonneg x)).mp h')
    rw [if_neg h', if_neg h]

/-- The reflector as the reference writes it. -/
theorem refl_eq (x : ι → EReal) (p k : ι) :
    (if k = p then 1 else Ideal.div (x k) (if 0 < Ideal.sqrt (sq x) then x p - beta (x p) (sq x) else 1))
      = refl x p k := by
  unfold refl denOf
  by_cases h : 0 < sq x
  · have h' := (sqrt_pos (sq_nonneg x)).mpr h
    rw [if_pos h', if_neg (sub_beta_ne_zero h')]
  · have h' := fun h' => h ((sqrt_pos (sq_nonneg x)).mp h')
    have hs : sq x = 0 := le_antisymm (not_lt.mp h) (sq_nonneg x)
    rw [if_neg h', eq_zero_of_sq h p, hs]
    have hb : beta 0 0 = 0 := by simp [beta, ← EReal.coe_zero]
    rw [hb]; simp

end

end Cert.Qr

end
-- ==== Proof.Qr.CompactQ.lean ====
/- One step of the compact form of a product of reflections, over the reals: with the reflectors in the rows of `V` and the
   lower triangular `T`, the product is the identity less `(T V)ᵀ V`, and one more reflection is one more row of each. -/
module

public import Mathlib.Data.Real.Basic
public import Mathlib.Algebra.BigOperators.Ring.Finset
public import Mathlib.Algebra.BigOperators.Group.Finset.Sigma
public import Mathlib.Tactic.Ring
public import Mathlib.Tactic.Linarith

@[expose] public section

noncomputable section

namespace Cert.Qr

variable {n d : ℕ}

/-- The rows of `T V`. -/
def wRow (V : Fin d → Fin n → ℝ) (T : Fin d → Fin d → ℝ) (k : Fin d) (r : Fin n) : ℝ := ∑ l, T k l * V l r

/-- The product that `V` and `T` stand for. -/
def compact (V : Fin d → Fin n → ℝ) (T : Fin d → Fin d → ℝ) (r c : Fin n) : ℝ :=
  (if r = c then 1 else 0) - ∑ k, wRow V T k r * V k c

/-- `V` with the reflector `v` in row `j`. -/
def addV (V : Fin d → Fin n → ℝ) (j : Fin d) (v : Fin n → ℝ) (k : Fin d) : Fin n → ℝ := if k = j then v else V k

/-- The products of the reflector `v` with the rows above row `j`. -/
def cross (V : Fin d → Fin n → ℝ) (j : Fin d) (v : Fin n → ℝ) (i : Fin d) : ℝ :=
  if i < j then ∑ m, v m * addV V j v i m else 0

/-- `T` with row `j` of the reflection by `v` with coefficient `t`. -/
def addT (V : Fin d → Fin n → ℝ) (T : Fin d → Fin d → ℝ) (j : Fin d) (v : Fin n → ℝ) (t : ℝ) (k l : Fin d) : ℝ :=
  if k = j then (0 - t) * (∑ i, cross V j v i * T i l) + (if l = j then t else 0) else T k l

/-- The rows from `j` on are zero, and `T` is lower triangular. -/
structure Upto (j : ℕ) (V : Fin d → Fin n → ℝ) (T : Fin d → Fin d → ℝ) : Prop where
  v : ∀ k : Fin d, j ≤ k.val → V k = 0
  row : ∀ k l : Fin d, j ≤ k.val → T k l = 0
  tri : ∀ k l : Fin d, k < l → T k l = 0

variable {V : Fin d → Fin n → ℝ} {T : Fin d → Fin d → ℝ} {j : Fin d}

theorem Upto.step (h : Upto j.val V T) (v : Fin n → ℝ) (t : ℝ) : Upto (j.val + 1) (addV V j v) (addT V T j v t) where
  v k hk := by
    have hne : k ≠ j := by rintro rfl; omega
    rw [addV, if_neg hne]; exact h.v k (by omega)
  row k l hk := by
    have hne : k ≠ j := by rintro rfl; omega
    rw [addT, if_neg hne]; exact h.row k l (by omega)
  tri k l hkl := by
    by_cases hk : k = j
    · subst hk
      rw [addT, if_pos rfl, if_neg hkl.ne', add_zero, Finset.sum_eq_zero, mul_zero]
      intro i _
      by_cases hi : i < k
      · rw [h.tri i l (hi.trans hkl), mul_zero]
      · rw [cross, if_neg hi, zero_mul]
    · rw [addT, if_neg hk]; exact h.tri k l hkl

/-- The rows before `j` of `T V` stay. -/
theorem Upto.wRow_lt (h : Upto j.val V T) (v : Fin n → ℝ) (t : ℝ) {k : Fin d} (hk : k < j) (r : Fin n) :
    wRow (addV V j v) (addT V T j v t) k r = wRow V T k r := by
  refine Finset.sum_congr rfl fun l _ => ?_
  rw [addT, if_neg hk.ne]
  by_cases hl : l = j
  · subst hl; rw [h.tri k l hk, zero_mul, zero_mul]
  · rw [addV, if_neg hl]

/-- Row `j` of the new `T V`. -/
theorem Upto.wRow_self (h : Upto j.val V T) (v : Fin n → ℝ) (t : ℝ) (r : Fin n) :
    wRow (addV V j v) (addT V T j v t) j r = t * v r - t * ∑ k, cross V j v k * wRow V T k r := by
  have h1 : ∀ l, addT V T j v t j l * addV V j v l r
      = -t * (∑ i, cross V j v i * (T i l * V l r)) + (if l = j then t * v r else 0) := by
    intro l
    rw [addT, if_pos rfl]
    by_cases hl : l = j
    · subst hl
      rw [if_pos rfl, if_pos rfl, addV, if_pos rfl]
      have h2 : ∑ i, cross V l v i * T i l = 0 := Finset.sum_eq_zero fun i _ => by
        by_cases hi : i < l
        · rw [h.tri i l hi, mul_zero]
        · rw [cross, if_neg hi, zero_mul]
      have h3 : ∑ i, cross V l v i * (T i l * V l r) = 0 := Finset.sum_eq_zero fun i _ => by
        rw [h.v l le_rfl]; simp
      rw [h2, h3]; ring
    · rw [if_neg hl, if_neg hl, addV, if_neg hl, add_zero, add_zero, zero_sub, mul_assoc, Finset.sum_mul]
      simp only [mul_assoc]
  unfold wRow
  rw [Finset.sum_congr rfl fun l _ => h1 l, Finset.sum_add_distrib, Finset.sum_ite_eq' Finset.univ j,
    if_pos (Finset.mem_univ j), ← Finset.mul_sum, Finset.sum_comm]
  simp only [← Finset.mul_sum]
  ring

/-- One more reflection on the right of the product. -/
theorem Upto.compact_step (h : Upto j.val V T) (v : Fin n → ℝ) (t : ℝ) (r c : Fin n) :
    compact (addV V j v) (addT V T j v t) r c
      = compact V T r c - t * ((∑ m, compact V T r m * v m) * v c) := by
  have hc : ∀ k, ∑ m, v m * V k m = cross V j v k := by
    intro k
    by_cases hk : k < j
    · rw [cross, if_pos hk, addV, if_neg hk.ne]
    · rw [cross, if_neg hk, h.v k (by omega)]; simp
  have h1 : ∑ m, compact V T r m * v m = v r - ∑ k, cross V j v k * wRow V T k r := by
    unfold compact
    simp only [sub_mul, Finset.sum_sub_distrib, ite_mul, one_mul, zero_mul, Finset.sum_ite_eq, Finset.mem_univ, if_true]
    congr 1
    simp only [Finset.sum_mul]
    rw [Finset.sum_comm]
    refine Finset.sum_congr rfl fun k _ => ?_
    rw [← hc k, Finset.sum_mul]
    exact Finset.sum_congr rfl fun m _ => by ring
  have h2 : ∀ k, wRow (addV V j v) (addT V T j v t) k r * addV V j v k c
      = wRow V T k r * V k c + (if k = j then wRow (addV V j v) (addT V T j v t) j r * v c else 0) := by
    intro k
    rcases lt_trichotomy k j with hk | hk | hk
    · rw [h.wRow_lt v t hk, addV, if_neg hk.ne, if_neg hk.ne, add_zero]
    · subst hk; rw [addV, if_pos rfl, if_pos rfl, h.v k le_rfl]; simp
    · rw [if_neg hk.ne', addV, if_neg hk.ne', h.v k hk.le]; simp
  rw [h1]
  unfold compact
  rw [Finset.sum_congr rfl fun k _ => h2 k, Finset.sum_add_distrib, Finset.sum_ite_eq' Finset.univ j,
    if_pos (Finset.mem_univ j), h.wRow_self]
  ring

end Cert.Qr

end
-- ==== Proof.Qr.Panel.lean ====
/- The panel against the textbook loop. The panel works on the transposed matrix with rows padded by zeros, updates only the
   rows below the current one and keeps the reflections in compact form; the loop reflects the matrix and the product of
   the reflections each time. Started on matrices that agree up to the sign of their infinities, the compact form ends
   at the loop's product. -/
module

public import proofs.«01_k».proof.Proof.Qr.Reflector
public import proofs.«01_k».proof.Proof.Qr.CompactQ

@[expose] public section

noncomputable section

namespace Cert.Qr

open Idealize.ShloMosaic

variable {n m d : ℕ}

/-- The column under reflection in trip `j`, from the pivot down. -/
def tail (x : Fin n → EReal) (j : ℕ) (i : Fin n) : EReal := if j ≤ i.val then x i else 0

/-! ## One trip of the panel -/

/-- The panel's rows after trip `j`: only those below row `j` are reflected. -/
def panelA (hd : d ≤ m) (a : Fin d → Fin m → EReal) (j : Fin d) (k : Fin d) (i : Fin m) : EReal :=
  a k i - (tau (tail (a j) j) (Fin.castLE hd j)
      * (if j < k then ∑ l, a k l * refl (tail (a j) j) (Fin.castLE hd j) l else 0))
    * refl (tail (a j) j) (Fin.castLE hd j) i

/-- The panel's reflectors after trip `j`. -/
def panelV (hd : d ≤ m) (a vt : Fin d → Fin m → EReal) (j : Fin d) (k : Fin d) : Fin m → EReal :=
  if k = j then refl (tail (a j) j) (Fin.castLE hd j) else vt k

/-- The panel's triangular factor after trip `j`; `vt` already holds the new reflector. -/
def panelT (hd : d ≤ m) (a vt : Fin d → Fin m → EReal) (tt : Fin d → Fin d → EReal) (j : Fin d) (k l : Fin d) : EReal :=
  if k = j then
    (0 - tau (tail (a j) j) (Fin.castLE hd j))
      * (∑ i, (if i < j then ∑ x, refl (tail (a j) j) (Fin.castLE hd j) x * vt i x else 0) * tt i l)
      + (if l = j then tau (tail (a j) j) (Fin.castLE hd j) else 0)
  else tt k l

/-! ## One trip of the textbook loop -/

/-- The matrix after the reflection of column `j`. -/
def loopA (hd : d ≤ n) (a : Fin n → Fin d → EReal) (j : Fin d) (i : Fin n) (k : Fin d) : EReal :=
  a i k - tau (tail (fun x => a x j) j) (Fin.castLE hd j)
    * (refl (tail (fun x => a x j) j) (Fin.castLE hd j) i
      * ∑ l, refl (tail (fun x => a x j) j) (Fin.castLE hd j) l * a l k)

/-- The product of the reflections after the one of column `j`. -/
def loopQ (hd : d ≤ n) (a : Fin n → Fin d → EReal) (q : Fin n → Fin n → EReal) (j : Fin d) (r c : Fin n) : EReal :=
  q r c - tau (tail (fun x => a x j) j) (Fin.castLE hd j)
    * ((∑ l, q r l * refl (tail (fun x => a x j) j) (Fin.castLE hd j) l)
      * refl (tail (fun x => a x j) j) (Fin.castLE hd j) c)

/-! ## Padding -/

/-- A sum whose terms past the first `n` vanish. -/
theorem sum_pad (hnm : n ≤ m) {f : Fin m → EReal} (h : ∀ i : Fin m, n ≤ i.val → f i = 0) :
    ∑ i, f i = ∑ i : Fin n, f (Fin.castLE hnm i) := by
  symm
  refine Finset.sum_of_injOn (Fin.castLE hnm) (Fin.castLE_injective hnm).injOn (by simp) ?_ (fun _ _ => rfl)
  intro i _ hi
  refine h i ?_
  by_contra hlt
  exact hi ⟨⟨i.val, by omega⟩, by simp, rfl⟩

theorem sq_pad (hnm : n ≤ m) {x : Fin m → EReal} (h : ∀ i : Fin m, n ≤ i.val → x i = 0) :
    sq x = sq fun i => x (Fin.castLE hnm i) :=
  sum_pad hnm fun i hi => by rw [h i hi, mul_zero]

theorem tau_pad (hnm : n ≤ m) {x : Fin m → EReal} (h : ∀ i : Fin m, n ≤ i.val → x i = 0) (p : Fin n) :
    tau x (Fin.castLE hnm p) = tau (fun i => x (Fin.castLE hnm i)) p := by
  unfold tau; rw [sq_pad hnm h]

theorem refl_pad (hnm : n ≤ m) {x : Fin m → EReal} (h : ∀ i : Fin m, n ≤ i.val → x i = 0) (p k : Fin n) :
    refl x (Fin.castLE hnm p) (Fin.castLE hnm k) = refl (fun i => x (Fin.castLE hnm i)) p k := by
  unfold refl; rw [sq_pad hnm h]
  exact if_congr (Fin.castLE_injective hnm).eq_iff rfl rfl

theorem denOf_ne_zero (a n2 : EReal) : denOf a n2 ≠ 0 := by
  unfold denOf
  split
  · exact one_ne_zero
  · assumption

theorem refl_zero {ι : Type*} [Fintype ι] [DecidableEq ι] {x : ι → EReal} {p k : ι} (hk : k ≠ p) (h : x k = 0) :
    refl x p k = 0 := by
  rw [refl, if_neg hk, h, Ideal.div, if_neg (denOf_ne_zero _ _), zero_mul]

/-! ## The invariant -/

/-- What relates the two before trip `j`. -/
structure Inv (hnm : n ≤ m) (j : ℕ) (a vt : Fin d → Fin m → EReal) (tt : Fin d → Fin d → EReal)
    (b : Fin n → Fin d → EReal) (q : Fin n → Fin n → EReal) : Prop where
  sim : ∀ k : Fin d, j ≤ k.val → ∀ i : Fin n, Sim (a k (Fin.castLE hnm i)) (b i k)
  pad : ∀ (k : Fin d) (i : Fin m), n ≤ i.val → a k i = 0
  real : ∃ (V : Fin d → Fin n → ℝ) (T : Fin d → Fin d → ℝ), Upto j V T
    ∧ (∀ k i, vt k (Fin.castLE hnm i) = (V k i : EReal)) ∧ (∀ k (i : Fin m), n ≤ i.val → vt k i = 0)
    ∧ (∀ k l, tt k l = (T k l : EReal)) ∧ ∀ r c, q r c = (compact V T r c : EReal)

variable {a vt : Fin d → Fin m → EReal} {tt : Fin d → Fin d → EReal} {b : Fin n → Fin d → EReal}
  {q : Fin n → Fin n → EReal}

theorem Inv.step (hnm : n ≤ m) (hd : d ≤ n) (hdm : d ≤ m) {j : Fin d} (h : Inv hnm j.val a vt tt b q) :
    Inv hnm (j.val + 1) (panelA hdm a j) (panelV hdm a vt j) (panelT hdm a (panelV hdm a vt j) tt j)
      (loopA hd b j) (loopQ hd b q j) := by
  obtain ⟨V, T, hu, hV, hV0, hT, hQ⟩ := h.real
  -- the two columns, their reflector and coefficient
  have hx0 : ∀ i : Fin m, n ≤ i.val → tail (a j) j i = 0 := fun i hi => by
    unfold tail; split
    · exact h.pad j i hi
    · rfl
  have hxs : ∀ i : Fin n, Sim (tail (a j) j (Fin.castLE hnm i)) (tail (fun x => b x j) j i) := fun i => by
    unfold tail
    by_cases hi : j.val ≤ i.val
    · rw [if_pos hi, if_pos (show j.val ≤ (Fin.castLE hnm i).val from hi)]; exact h.sim j le_rfl i
    · rw [if_neg hi, if_neg (show ¬ j.val ≤ (Fin.castLE hnm i).val from hi)]; exact .refl _
  have hp : Fin.castLE hdm j = Fin.castLE hnm (Fin.castLE hd j) := rfl
  obtain ⟨t, ht⟩ := tau_real (tail (fun x => b x j) j) (Fin.castLE hd j)
  choose v hv using refl_real (tail (fun x => b x j) j) (Fin.castLE hd j)
  have htK : tau (tail (a j) j) (Fin.castLE hdm j) = (t : EReal) := by
    rw [hp, tau_pad hnm hx0, tau_congr hxs, ht]
  have hvK : ∀ i : Fin n, refl (tail (a j) j) (Fin.castLE hdm j) (Fin.castLE hnm i) = (v i : EReal) := fun i => by
    rw [hp, refl_pad hnm hx0, refl_congr hxs, hv]
  have hvK0 : ∀ i : Fin m, n ≤ i.val → refl (tail (a j) j) (Fin.castLE hdm j) i = 0 := fun i hi =>
    refl_zero (fun he => by have := congrArg Fin.val he; simp at this; omega) (hx0 i hi)
  -- the new rows of reflectors
  have hV' : ∀ k i, panelV hdm a vt j k (Fin.castLE hnm i) = (addV V j v k i : EReal) := fun k i => by
    unfold panelV addV
    by_cases hk : k = j
    · rw [if_pos hk, if_pos hk, hvK]
    · rw [if_neg hk, if_neg hk, hV]
  have hV0' : ∀ k (i : Fin m), n ≤ i.val → panelV hdm a vt j k i = 0 := fun k i hi => by
    unfold panelV
    by_cases hk : k = j
    · rw [if_pos hk, hvK0 i hi]
    · rw [if_neg hk, hV0 k i hi]
  refine ⟨fun k hk i => ?_, fun k i hi => ?_, addV V j v, addT V T j v t, hu.step v t, hV', hV0', fun k l => ?_, fun r c => ?_⟩
  · unfold panelA loopA
    rw [htK, ht, if_pos (show j < k from hk), sum_pad hnm (fun l hl => by rw [h.pad k l hl, zero_mul]), hvK i, hv i,
      mul_assoc, mul_comm (∑ i_1 : Fin n, _) (v i : EReal)]
    refine (h.sim k (by omega) i).sub ((Sim.refl _).mul ((Sim.refl _).mul (Sim.sum _ fun l _ => ?_)))
    rw [hvK l, hv l, mul_comm]
    exact (Sim.refl _).mul (h.sim k (by omega) l)
  · unfold panelA
    rw [h.pad k i hi, hvK0 i hi, mul_zero, sub_zero]
  · unfold panelT addT
    by_cases hk : k = j
    · rw [if_pos hk, if_pos hk, htK]
      have h1 : ∀ i, (if i < j then ∑ x, refl (tail (a j) j) (Fin.castLE hdm j) x * panelV hdm a vt j i x else 0) * tt i l
          = ((cross V j v i * T i l : ℝ) : EReal) := fun i => by
        rw [hT, EReal.coe_mul]
        congr 1
        unfold cross
        split
        · rw [sum_pad hnm fun x hx => by rw [hvK0 x hx, zero_mul], ← sum_coe]
          exact Finset.sum_congr rfl fun x _ => by rw [hvK, hV', EReal.coe_mul]
        · rfl
      rw [Finset.sum_congr rfl fun i _ => h1 i, sum_coe]
      have h2 : (if l = j then (t : EReal) else 0) = ((if l = j then t else 0 : ℝ) : EReal) := by split <;> rfl
      rw [h2, EReal.coe_add, EReal.coe_mul, EReal.coe_sub, EReal.coe_zero]
    · rw [if_neg hk, if_neg hk, hT]
  · unfold loopQ
    rw [hu.compact_step v t r c, ht, hQ, hv c]
    have h1 : ∀ l, q r l * refl (tail (fun x => b x j) j) (Fin.castLE hd j) l = ((compact V T r l * v l : ℝ) : EReal) :=
      fun l => by rw [hQ, hv, EReal.coe_mul]
    rw [Finset.sum_congr rfl fun l _ => h1 l, sum_coe]
    simp only [EReal.coe_sub, EReal.coe_mul]

theorem Inv.init (hnm : n ≤ m) (hs : ∀ (k : Fin d) (i : Fin n), Sim (a k (Fin.castLE hnm i)) (b i k))
    (hp : ∀ (k : Fin d) (i : Fin m), n ≤ i.val → a k i = 0) (hv : ∀ k i, vt k i = 0) (ht : ∀ k l, tt k l = 0)
    (hq : ∀ r c, q r c = if r = c then 1 else 0) : Inv hnm 0 a vt tt b q where
  sim k _ i := hs k i
  pad := hp
  real := ⟨0, 0, ⟨fun _ _ => rfl, fun _ _ _ => rfl, fun _ _ _ => rfl⟩, fun k i => hv k _, fun k i _ => hv k i, ht,
    fun r c => by rw [hq]; unfold compact wRow; split <;> simp⟩

/-- The compact form the panel ends with is the loop's product. -/
theorem Inv.final (hnm : n ≤ m) {j : ℕ} (h : Inv hnm j a vt tt b q) (r c : Fin n) :
    (if r = c then (1 : EReal) else 0)
      - ∑ k, (∑ l, tt k l * vt l (Fin.castLE hnm r)) * vt k (Fin.castLE hnm c) = q r c := by
  obtain ⟨V, T, _, hV, _, hT, hQ⟩ := h.real
  rw [hQ]
  unfold compact
  have h1 : ∀ k, (∑ l, tt k l * vt l (Fin.castLE hnm r)) * vt k (Fin.castLE hnm c)
      = ((wRow V T k r * V k c : ℝ) : EReal) := fun k => by
    rw [hV, EReal.coe_mul, wRow, ← sum_coe]
    congr 1
    exact Finset.sum_congr rfl fun l _ => by rw [hV, hT, EReal.coe_mul]
  have h2 : (if r = c then (1 : EReal) else 0) = ((if r = c then 1 else 0 : ℝ) : EReal) := by split <;> rfl
  rw [Finset.sum_congr rfl fun k _ => h1 k, sum_coe, h2, EReal.coe_sub]

end Cert.Qr

end
-- ==== Proof.Qr.Words.lean ====
/- Choices made by comparing words that hold small naturals: they are choices made by comparing the naturals. -/
module

public import Idealize.ShloMosaic.Lib.WordCmp
public import Idealize.ShloMosaic.Lib.Pointwise

@[expose] public section

namespace Cert.Qr

open Idealize.ShloMosaic

/-- A choice by a one-bit word that holds a proposition. -/
theorem choose_bool {α : Type} (p : Prop) [Decidable p] (x y : α) :
    Scalar.select (BitVec.ofBool (decide p)) x y = if p then x else y := by
  by_cases h : p <;> simp [h, Scalar.select]

variable {α : Type} {a b : ℕ} (x y : α)

theorem choose_eq (ha : a < 2 ^ 32) (hb : b < 2 ^ 32) :
    Scalar.select (IntOp.cmpi .eq (BitVec.ofNat 32 a) (BitVec.ofNat 32 b)) x y = if a = b then x else y := by
  rw [Idealize.ShloMosaic.WordCmp.cmpi_eq_ofNat ha hb, choose_bool]

theorem choose_ge (ha : a < 2 ^ 31) (hb : b < 2 ^ 31) :
    Scalar.select (IntOp.cmpi .sge (BitVec.ofNat 32 a) (BitVec.ofNat 32 b)) x y = if b ≤ a then x else y := by
  rw [Idealize.ShloMosaic.WordCmp.cmpi_sge_ofNat ha hb, choose_bool]

theorem choose_gt (ha : a < 2 ^ 31) (hb : b < 2 ^ 31) :
    Scalar.select (IntOp.cmpi .sgt (BitVec.ofNat 32 a) (BitVec.ofNat 32 b)) x y = if b < a then x else y := by
  rw [Idealize.ShloMosaic.WordCmp.cmpi_sgt_ofNat ha hb, choose_bool]

theorem choose_lt (ha : a < 2 ^ 31) (hb : b < 2 ^ 31) :
    Scalar.select (IntOp.cmpi .slt (BitVec.ofNat 32 a) (BitVec.ofNat 32 b)) x y = if a < b then x else y := by
  rw [Idealize.ShloMosaic.WordCmp.cmpi_slt_ofNat ha hb, choose_bool]

end Cert.Qr
-- ==== Proof.Qr.KerStep.lean ====
/- One trip of the panel kernel's loop, read at an index: what it stores is the panel's reflector, rows and factor. -/
module

public import proofs.«01_k».proof.Proof.Gen.KernelIdeal.Loops
public import proofs.«01_k».proof.Proof.Qr.Panel
public import proofs.«01_k».proof.Proof.Qr.Words

@[expose] public section

set_option maxRecDepth 16384

noncomputable section

namespace Cert.KernelIdeal.Panel

open Idealize.ShloMosaic Idealize.ShloMosaic.TcCoe Cert.Qr Cert.KernelIdeal.Gen

theorem le_pad : 128 ≤ 10240 := by decide

theorem trips_eq : k0_t1_loop.trips = 128 := by decide

/-- The trip's number as the panel's row. -/
def row (j : Fin k0_t1_loop.trips) : Fin 128 := ⟨j.val, j.isLt.trans_eq trips_eq⟩

theorem iv_eq (j : Fin k0_t1_loop.trips) : Scf.iv 0#32 1#32 j.val = BitVec.ofNat 32 (row j).val := by
  show 0#32 + BitVec.ofNat 32 j.val * 1#32 = BitVec.ofNat 32 j.val
  simp

/-- The lane numbers the kernel compares with. -/
abbrev lanes : IVec S1x10240 32 := iota .tc S1x10240 32 [1] iota_S1x10240_d1_w32

variable (j : Fin k0_t1_loop.trips) (x : Vec Ideal S1x10240 .f32)

/-- The row under reflection, from the pivot on. -/
abbrev tl : Fin 10240 → EReal := tail (fun i => x (ix2 0 i)) (row j)

/-- The pivot's lane. -/
abbrev piv : Fin 10240 := Fin.castLE le_pad (row j)

theorem lane_eq (i : Fin 10240) (a b : EReal) :
    Scalar.select (IntOp.cmpi .eq (BitVec.ofNat 32 i.val) (BitVec.ofNat 32 (row j).val)) a b = if i = piv j then a else b := by
  have := (row j).isLt
  rw [choose_eq _ _ (by omega) (by omega)]
  exact if_congr (by rw [Fin.ext_iff]; rfl) rfl rfl

theorem pay8_at (i : Fin 10240) : k0_pay8 (F := Ideal) lanes 0#32 1#32 j x (ix2 0 i) = tl j x i := by
  have := (row j).isLt
  pointwise [k0_pay8, lanes, iv_eq]
  rw [choose_ge _ _ (by omega) (by omega)]
  rfl

theorem pay9_at : k0_pay9 (F := Ideal) lanes 0#32 1#32 j x = tl j x (piv j) := by
  pointwise [k0_pay9, k0_pay7, lanes, iv_eq]
  simp only [lane_eq, Finset.sum_ite_eq', Finset.mem_univ, if_true, Finset.univ_unique, Finset.sum_singleton]
  exact (if_pos (le_refl _)).symm

theorem pay10_at : k0_pay10 (F := Ideal) lanes 0#32 1#32 j x = Qr.sq (tl j x) := by
  pointwise [k0_pay10, pay8_at]
  simp only [Finset.univ_unique, Finset.sum_singleton]
  rfl

theorem pay11_at : k0_pay11 (F := Ideal) lanes 0#32 1#32 j x = beta (tl j x (piv j)) (Qr.sq (tl j x)) := by
  pointwise [k0_pay11, pay9_at, pay10_at]
  rfl

theorem pay12_at : k0_pay12 (F := Ideal) lanes 0#32 1#32 j x = tau (tl j x) (piv j) := by
  pointwise [k0_pay12, pay9_at, pay10_at, pay11_at]
  rfl

theorem pay13_at (i : Fin 10240) : k0_pay13 (F := Ideal) lanes 0#32 1#32 j x (ix2 0 i) = refl (tl j x) (piv j) i := by
  pointwise [k0_pay13, k0_pay7, iv_eq]
  rw [lane_eq, pay8_at, pay9_at, pay11_at]
  rfl

theorem pay14_at (a : Vec Ideal S128x10240 .f32) (k : Fin 128) :
    k0_pay14 (F := Ideal) lanes 0#32 1#32 j x a (ix2 k 0) = ∑ l, a (ix2 k l) * refl (tl j x) (piv j) l := by
  pointwise [k0_pay14, pay13_at]

/-- The rows the trip stores. -/
theorem rows_at (a : Vec Ideal S128x10240 .f32) (hx : ∀ i, x (ix2 0 i) = a (ix2 (row j) i)) (k : Fin 128) (i : Fin 10240) :
    k0_pay4 (F := Ideal) (Scf.iv 0#32 1#32 j.val) (k0_pay12 lanes 0#32 1#32 j x) (k0_pay13 lanes 0#32 1#32 j x)
      (k0_pay14 lanes 0#32 1#32 j x a) a (ix2 k i)
      = panelA le_pad (fun k i => a (ix2 k i)) (row j) k i := by
  have := (row j).isLt
  pointwise [k0_pay4, iv_eq, pay13_at, pay12_at, pay14_at]
  rw [choose_gt _ _ (by omega) (by omega)]
  unfold panelA tl
  simp only [hx]
  split
  · rename_i h; rw [if_pos (show row j < k from h)]
  · rename_i h; rw [if_neg (show ¬ row j < k from h)]; simp

/-- The row of the factor the trip stores. -/
theorem factor_at (a vt : Vec Ideal S128x10240 .f32) (tt : Vec Ideal S128x128 .f32)
    (hx : ∀ i, x (ix2 0 i) = a (ix2 (row j) i)) (l : Fin 128) :
    k0_pay5 (F := Ideal) (Scf.iv 0#32 1#32 j.val) (k0_pay12 lanes 0#32 1#32 j x) (k0_pay13 lanes 0#32 1#32 j x)
      vt tt (ix2 0 l)
      = panelT le_pad (fun k i => a (ix2 k i)) (fun k i => vt (ix2 k i)) (fun k l => tt (ix2 k l)) (row j) (row j) l := by
  have := (row j).isLt
  pointwise [k0_pay5, iv_eq, pay13_at, pay12_at]
  unfold panelT tl
  simp only [hx, if_true]
  rw [choose_eq _ _ (by omega) (by omega)]
  congr 1
  · congr 1
    refine Finset.sum_congr rfl fun i _ => ?_
    rw [choose_lt _ _ (by omega) (by omega)]
    by_cases h : i < row j
    · rw [if_pos h, if_pos (show i.val < (row j).val from h)]
    · rw [if_neg h, if_neg (show ¬ i.val < (row j).val from h), zero_mul]
  · exact if_congr (by rw [Fin.ext_iff]) rfl rfl

end Cert.KernelIdeal.Panel

end
-- ==== Proof.Qr.KerLoop.lean ====
/- The panel kernel's loop: the contents of its three buffers after a trip, as functions of the contents before it. -/
module

public import proofs.«01_k».proof.Proof.Gen.KernelIdeal.Frame
public import proofs.«01_k».proof.Proof.Qr.KerStep
public import Idealize.ShloMosaic.Lib.WritesUnit
public import Idealize.ShloMosaic.Lib.VecWindow
public import Idealize.ShloMosaic.Lib.Tactic
public import Idealize.ShloMosaic.Lib.Pipeline.ValueKit.Tiles

@[expose] public section

set_option maxRecDepth 16384

noncomputable section

namespace Cert.KernelIdeal.Panel

open Idealize.ShloMosaic Idealize.ShloMosaic.TcCoe Idealize.ShloMosaic.Tactic Cert.Qr Cert.KernelIdeal.Gen

/-- A matrix's entries by row and column. -/
abbrev ent {a b : ℕ} (f : (⟨2, ![a, b]⟩ : Shape).Idx → EReal) (k : Fin a) (i : Fin b) : EReal := f (ix2 k i)

theorem off_eq (j : Fin k0_t1_loop.trips) : k0_off1 j = ![(row j).val, 0] := by
  have := (row j).isLt
  show ![BitVec.toNat (Scalar.indexCast (Scf.iv 0#32 1#32 j.val) : BitVec 32), 0] = _
  rw [iv_eq]
  congr 1
  show (BitVec.ofNat 32 (row j).val).toNat = _
  rw [BitVec.toNat_ofNat]
  omega

/-- What a store of row `j` leaves, the rest as before. -/
theorem row_store {n : ℕ} {sp : Space} (v : View sig .tc sp ⟨2, ![128, n]⟩ .f32) (f : v.ty.Contents (Elt Ideal))
    (off : Fin 2 → ℕ) (inb : ∀ a, off a + (![1, n] : Fin 2 → ℕ) a ≤ (![128, n] : Fin 2 → ℕ) a)
    (w : (⟨2, ![1, n]⟩ : Shape).Idx → EReal) (j : Fin 128) (h : off = ![j.val, 0]) (k : Fin 128) (i : Fin n) :
    v.read (Elt Ideal) (v.writes (Elt Ideal) f
        [(⟨Rect.unit (s := ⟨2, ![128, n]⟩) off ![1, n] inb, w⟩ : View.Piece (Elt Ideal) ⟨2, ![128, n]⟩ .f32)]) (ix2 k i)
      = if k = j then w (ix2 0 i) else v.read (Elt Ideal) f (ix2 k i) := by
  by_cases hk : k = j
  · subst hk
    rw [if_pos rfl]
    exact View.read_writes_cons_rows_of_mem v f inb w [] (ix2 k i) (ix2 0 i) h (Nat.add_zero _).symm rfl
  · rw [if_neg hk]
    refine View.read_writes_cons_rows_of_not_mem (W := 1) v f inb w [] (ix2 k i) h rfl ?_
    have : k.val ≠ j.val := fun e => hk (Fin.ext e)
    show k.val < j.val ∨ j.val + 1 ≤ k.val
    omega

/-- A load of row `j`. -/
theorem row_load {n : ℕ} {sp : Space} (v : View sig .tc sp ⟨2, ![128, n]⟩ .f32) (f : v.ty.Contents (Elt Ideal))
    (off : Fin 2 → ℕ) (inb : ∀ a, off a + (![1, n] : Fin 2 → ℕ) a ≤ (![128, n] : Fin 2 → ℕ) a) (j : Fin 128)
    (h : off = ![j.val, 0]) (i : Fin n) :
    v.readAt (Elt Ideal) (Rect.unit (s := ⟨2, ![128, n]⟩) off ![1, n] inb).toLoadRect f (ix2 0 i)
      = v.read (Elt Ideal) f (ix2 j i) := by
  subst h
  refine congrArg (v.read (Elt Ideal) f) (funext fun a => Fin.ext ((Rect.idx_unit_val _ _ _ _ a).trans ?_))
  match a with
  | ⟨0, _⟩ => exact Nat.add_zero _
  | ⟨1, _⟩ => exact Nat.zero_add _

section Trip

variable (c : Dev nD)
  (arg0 : Memref sig .tc .vmem S128x10240 .f32) (harg0 : arg0.IsWhole) (arg1 : Memref sig .tc .vmem S128x10240 .f32)
  (harg1 : arg1.IsWhole) (arg2 : Memref sig .tc .vmem S128x10240 .f32) (harg2 : arg2.IsWhole)
  (arg3 : Memref sig .tc .vmem S128x10240 .f32) (harg3 : arg3.IsWhole) (arg4 : Memref sig .tc .vmem S128x128 .f32)
  (harg4 : arg4.IsWhole) (j : Fin k0_t1_loop.trips)
  (f1 : BufTy.Contents (Elt Ideal) arg1.view.ty) (f3 : BufTy.Contents (Elt Ideal) arg3.view.ty)
  (f4 : BufTy.Contents (Elt Ideal) arg4.view.ty)

/-- The trip's pieces. -/
abbrev pieces := tripL_k0_t1 (F := Ideal) Variants.none c none arg0 harg0 arg1 harg1 arg2 harg2 arg3 harg3 arg4 harg4 lanes j f1 f3 f4

/-- The row the trip loads. -/
abbrev rowX : Vec Ideal S1x10240 .f32 :=
  View.readAt (Elt Ideal) arg3.view (Rect.unit (s := S128x10240) (k0_off1 j) S1x10240.size (k0_off1_inb j)).toLoadRect f3

/-- The reflector's store. -/
abbrev pieceV : View.Piece (Elt Ideal) S128x10240 .f32 :=
  ⟨Rect.unit (s := S128x10240) (k0_off1 j) S1x10240.size (k0_off1_inb j), k0_pay13 lanes 0#32 1#32 j (rowX arg3 j f3)⟩

theorem pieces_eq : pieces c arg0 harg0 arg1 harg1 arg2 harg2 arg3 harg3 arg4 harg4 j f1 f3 f4
    = ([pieceV arg3 j f3],
       [⟨Rect.unit ![0, 0] S128x10240.size inb_S128x10240_S128x10240_0_0,
          k0_pay4 (Scf.iv 0#32 1#32 j.val) (k0_pay12 lanes 0#32 1#32 j (rowX arg3 j f3)) (k0_pay13 lanes 0#32 1#32 j (rowX arg3 j f3))
            (k0_pay14 lanes 0#32 1#32 j (rowX arg3 j f3)
              (View.readAt (Elt Ideal) arg3.view (Rect.unit ![0, 0] S128x10240.size inb_S128x10240_S128x10240_0_0).toLoadRect f3))
            (View.readAt (Elt Ideal) arg3.view (Rect.unit ![0, 0] S128x10240.size inb_S128x10240_S128x10240_0_0).toLoadRect f3)⟩],
       [⟨Rect.unit (s := S128x128) (k0_off2 j) S1x128.size (k0_off2_inb j),
          k0_pay5 (Scf.iv 0#32 1#32 j.val) (k0_pay12 lanes 0#32 1#32 j (rowX arg3 j f3)) (k0_pay13 lanes 0#32 1#32 j (rowX arg3 j f3))
            (View.readAt (Elt Ideal) arg1.view (Rect.unit ![0, 0] S128x10240.size inb_S128x10240_S128x10240_0_0).toLoadRect
              (arg1.view.writes (Elt Ideal) f1 [pieceV arg3 j f3]))
            (View.readAt (Elt Ideal) arg4.view (Rect.unit ![0, 0] S128x128.size inb_S128x128_S128x128_0_0).toLoadRect f4)⟩]) := by
  unfold pieces tripL_k0_t1 trip_k0_t1
  rfl

theorem rowX_at (i : Fin 10240) : rowX arg3 j f3 (ix2 0 i) = arg3.view.read (Elt Ideal) f3 (ix2 (row j) i) :=
  row_load arg3.view f3 (k0_off1 j) (k0_off1_inb j) (row j) (off_eq j) i

theorem rows_after : ent (arg3.view.read (Elt Ideal) (arg3.view.writes (Elt Ideal) f3
      (pieces c arg0 harg0 arg1 harg1 arg2 harg2 arg3 harg3 arg4 harg4 j f1 f3 f4).2.1))
    = panelA le_pad (ent (arg3.view.read (Elt Ideal) f3)) (row j) := by
  rw [pieces_eq, View.readAt_full]
  funext k i
  exact (congrFun (View.read_writes_full arg3.view f3 _ _ []) (ix2 k i)).trans
    (rows_at j _ _ (rowX_at arg3 j f3) k i)

theorem reflectors_step : ent (arg1.view.read (Elt Ideal) (arg1.view.writes (Elt Ideal) f1 [pieceV arg3 j f3]))
    = panelV le_pad (ent (arg3.view.read (Elt Ideal) f3)) (ent (arg1.view.read (Elt Ideal) f1)) (row j) := by
  funext k i
  refine (row_store arg1.view f1 (k0_off1 j) (k0_off1_inb j) _ (row j) (off_eq j) k i).trans ?_
  unfold panelV
  split
  · refine (pay13_at j _ i).trans ?_
    exact congrArg (fun x => refl (tail x (row j)) (piv j) i) (funext fun i => rowX_at arg3 j f3 i)
  · rfl

theorem reflectors_after : ent (arg1.view.read (Elt Ideal) (arg1.view.writes (Elt Ideal) f1
      (pieces c arg0 harg0 arg1 harg1 arg2 harg2 arg3 harg3 arg4 harg4 j f1 f3 f4).1))
    = panelV le_pad (ent (arg3.view.read (Elt Ideal) f3)) (ent (arg1.view.read (Elt Ideal) f1)) (row j) := by
  rw [pieces_eq]
  exact reflectors_step arg1 arg3 j f1 f3

theorem factor_after : ent (arg4.view.read (Elt Ideal) (arg4.view.writes (Elt Ideal) f4
      (pieces c arg0 harg0 arg1 harg1 arg2 harg2 arg3 harg3 arg4 harg4 j f1 f3 f4).2.2))
    = panelT le_pad (ent (arg3.view.read (Elt Ideal) f3))
        (panelV le_pad (ent (arg3.view.read (Elt Ideal) f3)) (ent (arg1.view.read (Elt Ideal) f1)) (row j))
        (ent (arg4.view.read (Elt Ideal) f4)) (row j) := by
  rw [← reflectors_step arg1 arg3 j f1 f3, pieces_eq]
  dsimp only
  rw [View.readAt_full, View.readAt_full]
  funext k i
  refine (row_store arg4.view f4 (k0_off2 j) (k0_off2_inb j) _ (row j) (off_eq j) k i).trans ?_
  by_cases h : k = row j
  · subst h
    rw [if_pos rfl]
    exact factor_at j _ _ _ _ (rowX_at arg3 j f3) i
  · unfold panelT
    rw [if_neg h, if_neg h]

end Trip

/-- What the panel holds: rows, reflectors, factor. -/
structure Panel where
  a : Fin 128 → Fin 10240 → EReal
  v : Fin 128 → Fin 10240 → EReal
  t : Fin 128 → Fin 128 → EReal

/-- The panel after `n` trips. -/
def Panel.run (s : Panel) : ℕ → Panel
  | 0 => s
  | n + 1 => if h : n < 128 then
      { a := panelA le_pad (s.run n).a ⟨n, h⟩
        v := panelV le_pad (s.run n).a (s.run n).v ⟨n, h⟩
        t := panelT le_pad (s.run n).a (panelV le_pad (s.run n).a (s.run n).v ⟨n, h⟩) (s.run n).t ⟨n, h⟩ }
    else s.run n

section Loop

variable (c : Dev nD)
  (arg0 : Memref sig .tc .vmem S128x10240 .f32) (harg0 : arg0.IsWhole) (arg1 : Memref sig .tc .vmem S128x10240 .f32)
  (harg1 : arg1.IsWhole) (arg2 : Memref sig .tc .vmem S128x10240 .f32) (harg2 : arg2.IsWhole)
  (arg3 : Memref sig .tc .vmem S128x10240 .f32) (harg3 : arg3.IsWhole) (arg4 : Memref sig .tc .vmem S128x128 .f32)
  (harg4 : arg4.IsWhole)

/-- The panel the three buffers hold. -/
def held (f1 : BufTy.Contents (Elt Ideal) arg1.view.ty) (f3 : BufTy.Contents (Elt Ideal) arg3.view.ty)
    (f4 : BufTy.Contents (Elt Ideal) arg4.view.ty) : Panel where
  a := ent (arg3.view.read (Elt Ideal) f3)
  v := ent (arg1.view.read (Elt Ideal) f1)
  t := ent (arg4.view.read (Elt Ideal) f4)

/-- The loop's pieces after `n` trips. -/
abbrev loopPieces (g1 : BufTy.Contents (Elt Ideal) arg1.view.ty) (g3 : BufTy.Contents (Elt Ideal) arg3.view.ty)
    (g4 : BufTy.Contents (Elt Ideal) arg4.view.ty) (n : ℕ) :=
  pb_k0_t1 (F := Ideal) Variants.none c none arg0 harg0 arg1 harg1 arg2 harg2 arg3 harg3 arg4 harg4 lanes g1 g3 g4 n

theorem held_loop (g1 : BufTy.Contents (Elt Ideal) arg1.view.ty) (g3 : BufTy.Contents (Elt Ideal) arg3.view.ty)
    (g4 : BufTy.Contents (Elt Ideal) arg4.view.ty) : ∀ n, n ≤ 128 →
    held arg1 arg3 arg4
      (arg1.view.writes (Elt Ideal) g1 (loopPieces c arg0 harg0 arg1 harg1 arg2 harg2 arg3 harg3 arg4 harg4 g1 g3 g4 n).1)
      (arg3.view.writes (Elt Ideal) g3 (loopPieces c arg0 harg0 arg1 harg1 arg2 harg2 arg3 harg3 arg4 harg4 g1 g3 g4 n).2.1)
      (arg4.view.writes (Elt Ideal) g4 (loopPieces c arg0 harg0 arg1 harg1 arg2 harg2 arg3 harg3 arg4 harg4 g1 g3 g4 n).2.2)
      = (held arg1 arg3 arg4 g1 g3 g4).run n
  | 0, _ => rfl
  | n + 1, h => by
    have ih := held_loop g1 g3 g4 n (by omega)
    have hn : n < k0_t1_loop.trips := by rw [trips_eq]; omega
    unfold Panel.run
    rw [dif_pos (by omega), ← ih]
    unfold loopPieces
    rw [pb_k0_t1_succ (k := ⟨n, hn⟩)]
    unfold held
    dsimp only
    rw [View.writes_append, View.writes_append, View.writes_append]
    congr 1
    · exact rows_after c arg0 harg0 arg1 harg1 arg2 harg2 arg3 harg3 arg4 harg4 ⟨n, hn⟩ _ _ _
    · exact reflectors_after c arg0 harg0 arg1 harg1 arg2 harg2 arg3 harg3 arg4 harg4 ⟨n, hn⟩ _ _ _
    · exact factor_after c arg0 harg0 arg1 harg1 arg2 harg2 arg3 harg3 arg4 harg4 ⟨n, hn⟩ _ _ _

/-- The panel the kernel starts its loop from: the block it reads, no reflectors, no factor. -/
def start (x : Vec Ideal S128x10240 .f32) : Panel where
  a := ent x
  v := fun _ _ => 0
  t := fun _ _ => 0

/-- The buffers' fills before the loop. -/
abbrev fillV : View.Piece (Elt Ideal) S128x10240 .f32 :=
  ⟨Rect.unit ![0, 0] S128x10240.size inb_S128x10240_S128x10240_0_0, k0_pay2 (F := Ideal)⟩
abbrev fillA (x0 : Vec Ideal S128x10240 .f32) : View.Piece (Elt Ideal) S128x10240 .f32 :=
  ⟨Rect.unit ![0, 0] S128x10240.size inb_S128x10240_S128x10240_0_0,
    k0_pay1 (View.readAt (Elt Ideal) arg0.view
      (Rect.unit ![0, 0] S128x10240.size inb_S128x10240_S128x10240_0_0).toLoadRect (harg0.unread x0))⟩
abbrev fillT : View.Piece (Elt Ideal) S128x128 .f32 :=
  ⟨Rect.unit ![0, 0] S128x128.size inb_S128x128_S128x128_0_0, k0_pay3 (F := Ideal)⟩

/-- The pieces of the whole loop, after the fills. -/
abbrev allPieces (x0 : Vec Ideal S128x10240 .f32) :=
  loopPieces c arg0 harg0 arg1 harg1 arg2 harg2 arg3 harg3 arg4 harg4
    (arg1.view.writes (Elt Ideal) arg1.view.junk [fillV])
    (arg3.view.writes (Elt Ideal) arg3.view.junk [fillA arg0 harg0 x0])
    (arg4.view.writes (Elt Ideal) arg4.view.junk [fillT]) (Scf.trips k0_t1_loop.lb k0_t1_loop.ub k0_t1_loop.st)

theorem held_start (x0 : Vec Ideal S128x10240 .f32) :
    held arg1 arg3 arg4 (arg1.view.writes (Elt Ideal) arg1.view.junk [fillV])
      (arg3.view.writes (Elt Ideal) arg3.view.junk [fillA arg0 harg0 x0])
      (arg4.view.writes (Elt Ideal) arg4.view.junk [fillT]) = start x0 := by
  unfold held start
  rw [View.read_writes_full, View.read_writes_full, View.read_writes_full, View.readAt_full, harg0.read_unread]
  congr 1 <;> funext k i <;> unfold ent
  · pointwise [k0_pay1]
  · pointwise [k0_pay2]
  · pointwise [k0_pay3]

theorem held_end (x0 : Vec Ideal S128x10240 .f32) :
    held arg1 arg3 arg4
      (arg1.view.writes (Elt Ideal) arg1.view.junk ((allPieces c arg0 harg0 arg1 harg1 arg2 harg2 arg3 harg3 arg4 harg4 x0).1 ++ [fillV]))
      (arg3.view.writes (Elt Ideal) arg3.view.junk ((allPieces c arg0 harg0 arg1 harg1 arg2 harg2 arg3 harg3 arg4 harg4 x0).2.1 ++ [fillA arg0 harg0 x0]))
      (arg4.view.writes (Elt Ideal) arg4.view.junk ((allPieces c arg0 harg0 arg1 harg1 arg2 harg2 arg3 harg3 arg4 harg4 x0).2.2 ++ [fillT]))
      = (start x0).run 128 := by
  rw [View.writes_append, View.writes_append, View.writes_append, held_loop _ _ _ _ _ _ _ _ _ _ _ _ _ _ _ trips_eq.le,
    trips_eq, held_start]

theorem pieces_reflectors (x0 : Vec Ideal S128x10240 .f32) :
    (kernelRun0_A (F := Ideal) c arg0 harg0 arg1 harg1 arg2 harg2 arg3 harg3 arg4 harg4 x0).1
      = (allPieces c arg0 harg0 arg1 harg1 arg2 harg2 arg3 harg3 arg4 harg4 x0).1 ++ [fillV] := by
  unfold kernelRun0_A
  rfl

theorem pieces_products (x0 : Vec Ideal S128x10240 .f32) :
    (kernelRun0_A (F := Ideal) c arg0 harg0 arg1 harg1 arg2 harg2 arg3 harg3 arg4 harg4 x0).2.1
      = [⟨Rect.unit ![0, 0] S128x10240.size inb_S128x10240_S128x10240_0_0,
          k0_pay6
            (arg4.view.readAt (Elt Ideal) (Rect.unit ![0, 0] S128x128.size inb_S128x128_S128x128_0_0).toLoadRect
              (arg4.view.writes (Elt Ideal) arg4.view.junk ((allPieces c arg0 harg0 arg1 harg1 arg2 harg2 arg3 harg3 arg4 harg4 x0).2.2 ++ [fillT])))
            (arg1.view.readAt (Elt Ideal) (Rect.unit ![0, 0] S128x10240.size inb_S128x10240_S128x10240_0_0).toLoadRect
              (arg1.view.writes (Elt Ideal) arg1.view.junk ((allPieces c arg0 harg0 arg1 harg1 arg2 harg2 arg3 harg3 arg4 harg4 x0).1 ++ [fillV])))⟩] := by
  unfold kernelRun0_A
  rfl

theorem out_reflectors (x0 : Vec Ideal S128x10240 .f32) :
    ent (out0_A_1 (F := Ideal) c arg0 harg0 arg1 harg1 arg2 harg2 arg3 harg3 arg4 harg4 x0) = ((start x0).run 128).v := by
  unfold out0_A_1
  have hc := cover0_A_1 (F := Ideal) c arg0 harg0 arg1 harg1 arg2 harg2 arg3 harg3 arg4 harg4 x0
  rw [View.read_writes_eq_canon _ _ _ hc, ← View.read_writes_eq_canon arg1.view arg1.view.junk _ hc, pieces_reflectors,
    ← held_end c arg0 harg0 arg1 harg1 arg2 harg2 arg3 harg3 arg4 harg4 x0]
  rfl

theorem out_products (x0 : Vec Ideal S128x10240 .f32) :
    ent (out0_A_2 (F := Ideal) c arg0 harg0 arg1 harg1 arg2 harg2 arg3 harg3 arg4 harg4 x0)
      = fun k i => ∑ l, ((start x0).run 128).t k l * ((start x0).run 128).v l i := by
  unfold out0_A_2
  rw [pieces_products, View.read_writes_full, View.readAt_full, View.readAt_full,
    ← held_end c arg0 harg0 arg1 harg1 arg2 harg2 arg3 harg3 arg4 harg4 x0]
  funext k i
  unfold ent
  pointwise [k0_pay6]
  rfl

end Loop

end Cert.KernelIdeal.Panel

end
-- ==== Proof.Qr.Regions.lean ====
/-
  What the kernel's two launches leave in their result arrays.

  The first launch has one grid point and its windows are whole arrays: it leaves the reflectors and the factor times
  the reflectors. The second walks a 20 by 20 grid of 512 by 512 blocks, the last ones cut at the array's end: every
  element of the result is the identity's entry less a product of one column of each of the first launch's arrays.
-/
module

public import proofs.«01_k».proof.Proof.Qr.KerLoop
public import proofs.«01_k».proof.Proof.Gen.KernelIdeal.Frame
public import Idealize.ShloMosaic.Lib.Pipeline.ValueKit
public import Idealize.ShloMosaic.Lib.Pipeline.Covers
import Idealize.ShloMosaic.Lib.Pointwise

@[expose] public section

set_option maxRecDepth 16384

noncomputable section

namespace Cert.KernelIdeal.Panel

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- The contents of the first launch's input array. -/
abbrev panelIn (c : Dev nD) : Vec Ideal S128x10240 .f32 := V c main_v33

theorem block_in (c : Dev nD) (t : Fin cfg0.N) : (iblk0 V c 0 t : Vec Ideal S128x10240 .f32) = panelIn V c := by
  have h : ∀ a, win0_0.index t a = 0 := fun _ => rfl
  funext y
  blk_ext [iblk0, h 0, h 1]

theorem array_reflectors (c : Dev nD) (k : Fin 128) (i : Fin 10240) :
    ent ((dat0 V c).arrAt 1 cfg0.N) k i = ((start (panelIn V c)).run 128).v k i := by
  have h : (dat0 V c).arrAt 1 cfg0.N = fun j : S128x10240.Idx => (outsAt0 V c t0_0).1 j := by
    refine (dat0 V c).arrAt_eq_of_after_last 1 t0_0 (by decide +kernel) _ fun j => ?_
    blk_simp
    rw [after0_1]
  rw [h]
  unfold outsAt0
  rw [← block_in V c t0_0]
  exact congrFun (congrFun (out_reflectors c (ms0_0 t0_0) (hs0_0 t0_0) (ms0_1 t0_0) (hs0_1 t0_0) (ms0_2 t0_0) (hs0_2 t0_0)
    scM0_0 (Memref.isWhole_whole _) scM0_1 (Memref.isWhole_whole _) (iblk0 V c 0 t0_0)) k) i

theorem staged_products (c : Dev nD) (t : Fin cfg0.N) :
    ent (outsAt0 V c t).2
      = fun k i => ∑ l, ((start (panelIn V c)).run 128).t k l * ((start (panelIn V c)).run 128).v l i := by
  rw [← block_in V c t]
  have e := out_products c (ms0_0 t) (hs0_0 t) (ms0_1 t) (hs0_1 t) (ms0_2 t) (hs0_2 t)
    scM0_0 (Memref.isWhole_whole _) scM0_1 (Memref.isWhole_whole _) (iblk0 V c 0 t)
  rw [← e]
  unfold outsAt0
  dsimp only

theorem array_products (c : Dev nD) (k : Fin 128) (i : Fin 10240) :
    ent ((dat0 V c).arrAt 2 cfg0.N) k i
      = ∑ l, ((start (panelIn V c)).run 128).t k l * ((start (panelIn V c)).run 128).v l i := by
  have h : (dat0 V c).arrAt 2 cfg0.N = fun j : S128x10240.Idx => (outsAt0 V c t0_0).2 j := by
    refine (dat0 V c).arrAt_eq_of_after_last 2 t0_0 (by decide +kernel) _ fun j => ?_
    blk_simp
    rw [after0_2]
  rw [h]
  have e := congrFun (congrFun (staged_products V c t0_0) k) i
  beta_reduce at e
  rw [← e]

/-! ## The second launch -/

/-- The two arrays it reads: the factor times the reflectors, and the reflectors. -/
abbrev products (c : Dev nD) : Vec Ideal S128x10240 .f32 := V c main_v34_1
abbrev reflectors (c : Dev nD) : Vec Ideal S128x10240 .f32 := V c main_v34_0

/-- One element of one block. -/
theorem block_entry (i : grid1.Coords) (x y : Vec Ideal S128x512 .f32) (r q : Fin 512) :
    k1_pay1 i x y (ix2 r q)
      = (if (i 0).val * 512 + r.val = (i 1).val * 512 + q.val then 1 else 0) - ∑ k : Fin 128, x (ix2 k r) * y (ix2 k q) := by
  have h0 : (i 0).val < 20 := (i 0).isLt
  have h1 : (i 1).val < 20 := (i 1).isLt
  have e : ∀ a b : ℕ, IntOp.addi (Scalar.muli (BitVec.ofNat 32 a) 512#32) (BitVec.ofNat 32 b) = BitVec.ofNat 32 (a * 512 + b) := by
    intro a b
    show BitVec.ofNat 32 a * BitVec.ofNat 32 512 + BitVec.ofNat 32 b = _
    rw [← BitVec.ofNat_mul, ← BitVec.ofNat_add]
  pointwise [k1_pay1]
  rw [e, e]
  exact congrArg (· - _) (Qr.choose_eq _ _ (by omega) (by omega))

/-- Where the three windows' blocks stand at a grid point. -/
theorem coord_lt (t : Fin grid1.N) (a : Fin 2) : (grid1.coords t a).val < 20 := by
  have := (grid1.coords t a).isLt
  match a with
  | ⟨0, _⟩ => exact this
  | ⟨1, _⟩ => exact this

theorem word_val (t : Fin grid1.N) (a : Fin 2) : (BitVec.ofNat 32 (grid1.coords t a).val).toNat = (grid1.coords t a).val := by
  have := coord_lt t a
  rw [BitVec.toNat_ofNat]
  omega

theorem place_left (t : Fin grid1.N) : win1_0.index t = ![0, (grid1.coords t 0).val] := by
  show ![_, (BitVec.ofNat 32 (grid1.coords t 0).val).toNat] = _
  rw [word_val t 0]; rfl

theorem place_right (t : Fin grid1.N) : win1_1.index t = ![0, (grid1.coords t 1).val] := by
  show ![_, (BitVec.ofNat 32 (grid1.coords t 1).val).toNat] = _
  rw [word_val t 1]; rfl

theorem place (t : Fin grid1.N) : win1_2.index t = ![(grid1.coords t 0).val, (grid1.coords t 1).val] := by
  show ![(BitVec.ofNat 32 (grid1.coords t 0).val).toNat, (BitVec.ofNat 32 (grid1.coords t 1).val).toNat] = _
  rw [word_val t 0, word_val t 1]

theorem array_result (c : Dev nD) (r q : Fin 10000) :
    ent ((dat1 V c).arrAt 2 cfg1.N) r q
      = (if r = q then 1 else 0) - ∑ k : Fin 128, ent (products V c) k (Fin.castLE (by decide) r) * ent (reflectors V c) k (Fin.castLE (by decide) q) := by
  have h : (dat1 V c).arrAt 2 cfg1.N = fun j : S10000x10000.Idx =>
      ((if (j 0).val = (j 1).val then 1 else 0 : EReal) - ∑ k : Fin 128, ent (products V c) k ⟨(j 0).val, (j 0).isLt.trans (by decide)⟩ * ent (reflectors V c) k ⟨(j 1).val, (j 1).isLt.trans (by decide)⟩) := by
    refine (dat1 V c).arrAt_eq_of_covers 2 _ (by decide +kernel) fun t hf y => ?_
    blk_simp
    rw [after1_2]
    frame_out
    have hy : ∀ a, (y a).val < win1_2.size a := fun a => Nat.lt_of_lt_of_le (y a).isLt (win1_2.xsize_le _ a)
    have y0 : (y 0).val < 512 := hy 0
    have y1 : (y 1).val < 512 := hy 1
    have he : (win1 2).xinj (grid1.coords t) y = ix2 ⟨(y 0).val, y0⟩ ⟨(y 1).val, y1⟩ := by
      funext a
      match a with
      | ⟨0, _⟩ => rfl
      | ⟨1, _⟩ => rfl
    have i2 := place t
    rw [he, block_entry]
    have b0 : ∀ k (q : Fin 512), iblk1 V c 0 t (ix2 k q) = ent (products V c) k ⟨(grid1.coords t 0).val * 512 + q.val, by have := coord_lt t 0; omega⟩ := by
      intro k q
      blk_ext [iblk1, place_left t]
    have b1 : ∀ k (q : Fin 512), iblk1 V c 1 t (ix2 k q) = ent (reflectors V c) k ⟨(grid1.coords t 1).val * 512 + q.val, by have := coord_lt t 1; omega⟩ := by
      intro k q
      blk_ext [iblk1, place_right t]
    simp only [b0, b1]
    blk_simp [place t]
  rw [h]
  unfold ent
  simp only [Fin.ext_iff]
  rfl

end Cert.KernelIdeal.Panel

end
-- ==== Proof.Qr.Launch.lean ====
/-
  The kernel's run, with its result: every execution ends with the result array at the last boundary's contents, and
  those contents are the identity less the product of the two arrays that the first launch leaves.
-/
module

public import proofs.«01_k».proof.Proof.Qr.Regions

@[expose] public section

set_option maxRecDepth 16384

noncomputable section

namespace Cert.KernelIdeal.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- The first launch's input as the host operations leave it, and the result at the end of the run. -/
abbrev padded (c : Dev nD) : Vec Ideal S128x10240 .f32 := W6 m ρ c main_v33
abbrev result (c : Dev nD) : Vec Ideal S10000x10000 .f32 := W8 m ρ c main_v35

theorem result_entry (c : Dev nD) (r q : Fin 10000) :
    ent (result m ρ c) r q
      = (if r = q then 1 else 0) - ∑ k : Fin 128,
          (∑ l, ((start (padded m ρ c)).run 128).t k l * ((start (padded m ρ c)).run 128).v l (Fin.castLE (by decide) r))
            * ((start (padded m ρ c)).run 128).v k (Fin.castLE (by decide) q) := by
  have h2 : result m ρ c = (dat1 (V7 m ρ) c).arrAt 2 cfg1.N := W8_arr m ρ c 2
  have h0 : reflectors (V7 m ρ) c = (dat0 (V6 m ρ) c).arrAt 1 cfg0.N := W7_arr m ρ c 1
  have h1 : products (V7 m ρ) c = (dat0 (V6 m ρ) c).arrAt 2 cfg0.N := W7_arr m ρ c 2
  rw [h2, array_result, h0, h1]
  simp only [array_reflectors, array_products]

set_option backward.isDefEq.respectTransparency.types false in
theorem run : θ_run defs (onTc (τ := τ) (main (F := Ideal))) ⟨m, fun _ => 0, ρ⟩ (fun r => ∀ c : Dev nD,
      r.2.mem ((c.tc : Thread nD τ).loc main_v35) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v35 (by decide)),
       (h c _ (mem_uc main_arg0 (by decide))).trans (W8_main_arg0 m ρ c),
       (h c _ (mem_uc main_arg1 (by decide))).trans (W8_main_arg1 m ρ c)⟩)

end Cert.KernelIdeal.Panel

end
-- ==== Proof.Qr.Aggregate.lean ====
/- One entry of the aggregated features, as the kernel and as the reference compute it: the kernel takes the source's degree
   factor out of the sum over the edges, and a node's own features in place of the mean over its edges of its own features.
   The two agree up to the sign of an infinity. -/
module

public import proofs.«01_k».proof.Proof.Qr.Sim
public import Idealize.ShloMosaic.PureOps.Ideal

@[expose] public section

noncomputable section

namespace Cert.Qr

open Idealize.ShloMosaic

/-- A constant summed over a finite set. -/
theorem sum_const_ereal {ι : Type*} (s : Finset ι) (y : EReal) : ∑ _i ∈ s, y = ((s.card : ℝ) : EReal) * y := by
  classical
  induction s using Finset.induction_on with
  | empty => simp
  | insert a s ha ih =>
    rw [Finset.sum_insert ha, ih, Finset.card_insert_of_notMem ha, Nat.cast_add, Nat.cast_one, EReal.coe_add,
      EReal.right_distrib_of_nonneg (by exact_mod_cast Nat.cast_nonneg s.card) (by exact_mod_cast zero_le_one),
      EReal.coe_one, one_mul, add_comm]

/-- The mean of equal terms over the edges of a node that has some. -/
theorem mean_const {c : ℕ} (hc : 0 < c) (y : EReal) :
    Ideal.div (((c : ℝ) : EReal) * y) (max ((c : ℝ) : EReal) 1) = y := by
  have h1 : (1 : EReal) ≤ ((c : ℝ) : EReal) := by
    have : (1 : ℝ) ≤ (c : ℝ) := by exact_mod_cast hc
    exact_mod_cast this
  have h0 : (c : ℝ) ≠ 0 := by exact_mod_cast hc.ne'
  rw [max_eq_left h1, Ideal.div_coe h0, mul_comm ((c : ℝ) : EReal) y, mul_assoc, ← EReal.coe_mul, mul_one_div_cancel h0,
    EReal.coe_one, mul_one]

theorem aggregate_sim {ι : Type*} (s : Finset ι) {deg dinv x half : EReal} {g en st nb sd sx : ι → EReal} {r : ℝ}
    (hr : dinv = (r : EReal)) (h0 : 0 ≤ r) (hpos : 0 < s.card → 0 < r) (hdeg : deg = ((s.card : ℝ) : EReal))
    (hst : ∀ e ∈ s, st e = dinv) (hsd : ∀ e ∈ s, sd e = deg) (hsx : ∀ e ∈ s, sx e = x)
    (hg : ∀ e ∈ s, g e = en e * nb e ∨ (g e = ⊥ ∧ en e = ⊥ ∧ nb e = ⊥)) :
    Sim (half * dinv * (∑ e ∈ s, g e) + half * (if 0 < deg then deg * x else 0))
      (half * (∑ e ∈ s, en e * (st e * nb e))
        + half * (if 0 < deg then Ideal.div (∑ e ∈ s, sd e * sx e) (max deg 1) else 0)) := by
  refine Sim.add ?_ (Sim.of_eq ?_)
  · rw [mul_assoc]
    refine (Sim.refl _).mul ?_
    rw [hr, coe_mul_sum s r h0]
    refine Sim.sum s fun e he => ?_
    rw [hst e he, hr]
    rcases hg e he with h | ⟨h1, h2, h3⟩
    · rw [h]; exact .of_eq (mul_left_comm _ _ _)
    · have hr0 : 0 < r := hpos (Finset.card_pos.mpr ⟨e, he⟩)
      rw [h1, h2, h3, EReal.coe_mul_bot_of_pos hr0]
      exact .inr ⟨.inr rfl, .inl (by simp)⟩
  · congr 1
    by_cases hc : 0 < s.card
    · rw [Finset.sum_congr rfl fun e he => by rw [hsd e he, hsx e he], sum_const_ereal, ← hdeg]
      split
      · rw [hdeg, mean_const hc]
      · rfl
    · have hz : deg = 0 := by rw [hdeg, Nat.eq_zero_of_not_pos hc]; simp
      rw [if_neg (by rw [hz]; exact lt_irrefl _), if_neg (by rw [hz]; exact lt_irrefl _)]

end Cert.Qr

end
-- ==== Proof.Qr.Route.lean ====
/- Rows taken from a table and rows added into a table at places named by a column of words: what the two operations read at an
   index, for a table of `N` rows and a column of `E` words. -/
module

public import proofs.«01_k».proof.Proof.Qr.Words
public import proofs.«01_k».proof.Proof.Qr.Aggregate
public import Idealize.ShloMosaic.PureOps.Ideal
public import Idealize.ShloMosaic.PureOps.Reduce
public import Idealize.ShloMosaic.Lib.ReduceAll
public import Idealize.ShloMosaic.Lib.Routing.Ops
public import Idealize.ShloMosaic.Lib.Routing.OpsSet
public import Idealize.ShloMosaic.Lib.Routing.OpsPair
public import Idealize.ShloMosaic.Lib.Pointwise
public import Idealize.ShloMosaic.Lib.Pointwise.IndexBridge

@[expose] public section

noncomputable section

namespace Cert.Qr

open Idealize.ShloMosaic

variable {N E C : ℕ}

theorem ofNat_toNat_self (w : BitVec 32) : BitVec.ofNat 32 w.toNat = w := by simp

/-- The words a column holds at which row `n` is named. -/
def named (idx : (⟨2, ![E, 1]⟩ : Shape).Idx → BitVec 32) (n : Fin N) : Finset (Fin E) :=
  Finset.univ.filter fun e => (idx (ix2 e 0)).toInt = (n.val : ℤ)

/-! ## Adding into a table -/

/-- Adding one number per word into a vector. -/
abbrev intoVec (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- Adding one row per word into a matrix. -/
abbrev intoRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

theorem intoVec_lands (wf : ScatterDims.WF ⟨1, ![N]⟩ ⟨2, ![E, 1]⟩ ⟨1, ![E]⟩ [] [0] [0] 1)
    (idx : (⟨2, ![E, 1]⟩ : Shape).Idx → BitVec 32) (e : Fin E) (n : Fin N) :
    (intoVec wf).resultIdx? (ix1 e) idx = some (ix1 n) ↔ (idx (ix2 e 0)).toInt = (n.val : ℤ) := by
  have hs : (intoVec wf).start (ix1 e) idx 0 = (idx (ix2 e 0)).toInt := by
    refine congrArg (fun i => (idx i).toInt) (funext fun b => ?_)
    match b with
    | ⟨0, _⟩ => rfl
    | ⟨1, _⟩ => rfl
  have hw : (intoVec wf).window (ix1 e) 0 = 0 := rfl
  rw [Routing.resultIdx?_eq_some]
  constructor
  · intro h
    have h0 := h 0
    rw [hs, hw] at h0
    simpa using h0
  · intro h a
    match a with
    | ⟨0, _⟩ =>
      refine (congrArg₂ (fun p (q : ℕ) => p + (q : ℤ)) hs hw).trans ?_
      simpa using h

theorem intoRows_lands (wf : ScatterDims.WF ⟨2, ![N, C]⟩ ⟨2, ![E, 1]⟩ ⟨2, ![E, C]⟩ [1] [0] [0] 1)
    (idx : (⟨2, ![E, 1]⟩ : Shape).Idx → BitVec 32) (e : Fin E) (k : Fin C) (n : Fin N) (c : Fin C) :
    (intoRows wf).resultIdx? (ix2 e k) idx = some (ix2 n c) ↔ (idx (ix2 e 0)).toInt = (n.val : ℤ) ∧ k = c := by
  have hs : (intoRows wf).start (ix2 e k) idx 0 = (idx (ix2 e 0)).toInt := by
    refine congrArg (fun i => (idx i).toInt) (funext fun b => ?_)
    match b with
    | ⟨0, _⟩ => rfl
    | ⟨1, _⟩ => rfl
  have hs1 : (intoRows wf).start (ix2 e k) idx 1 = 0 := rfl
  have hw : (intoRows wf).window (ix2 e k) 0 = 0 := rfl
  have hw1 : (intoRows wf).window (ix2 e k) 1 = k.val := rfl
  rw [Routing.resultIdx?_eq_some]
  constructor
  · intro h
    have h0 := h 0
    have h1 := h 1
    rw [hs, hw] at h0
    rw [hs1, hw1] at h1
    have h1' : (0 : ℤ) + (k.val : ℤ) = (c.val : ℤ) := h1
    exact ⟨by simpa using h0, Fin.ext (by omega)⟩
  · rintro ⟨h, rfl⟩ a
    match a with
    | ⟨0, _⟩ =>
      refine (congrArg₂ (fun p (q : ℕ) => p + (q : ℤ)) hs hw).trans ?_
      simpa using h
    | ⟨1, _⟩ =>
      refine (congrArg₂ (fun p (q : ℕ) => p + (q : ℤ)) hs1 hw1).trans ?_
      exact zero_add _

/-- An entry of a vector added into: what it held and the numbers whose words name it. -/
theorem intoVec_at (d : ScatterDims ⟨1, ![N]⟩ ⟨2, ![E, 1]⟩ ⟨1, ![E]⟩) (hu : d.updateWindowDims = []) (hn : d.insertedWindowDims = [0])
    (ho : d.scatterDimsToOperandDims = [0]) (hi : d.indexVectorDim = 1)
    (x : (⟨1, ![N]⟩ : Shape).Idx → EReal) (idx : (⟨2, ![E, 1]⟩ : Shape).Idx → BitVec 32)
    (u : (⟨1, ![E]⟩ : Shape).Idx → EReal) (n : Fin N) :
    Host.scatterAdd (F := Ideal) (φ := .f32) d x idx u (ix1 n) = x (ix1 n) + ∑ e ∈ named idx n, u (ix1 e) := by
  obtain ⟨_, _, _, _, wf⟩ := d
  dsimp only at hu hn ho hi
  subst hu hn ho hi
  show Ideal.hostScatterAdd (intoVec wf) x idx u (ix1 n) = _
  unfold Ideal.hostScatterAdd
  congr 1
  rw [Finset.sum_filter, sum_idx1, named, Finset.sum_filter]
  exact Finset.sum_congr rfl fun e _ => if_congr (intoVec_lands wf idx e n) rfl rfl

/-- An entry of a matrix added into: what it held and the entries in its column of the rows whose words name its row. -/
theorem intoRows_at (d : ScatterDims ⟨2, ![N, C]⟩ ⟨2, ![E, 1]⟩ ⟨2, ![E, C]⟩) (hu : d.updateWindowDims = [1])
    (hn : d.insertedWindowDims = [0]) (ho : d.scatterDimsToOperandDims = [0]) (hi : d.indexVectorDim = 1)
    (x : (⟨2, ![N, C]⟩ : Shape).Idx → EReal) (idx : (⟨2, ![E, 1]⟩ : Shape).Idx → BitVec 32)
    (u : (⟨2, ![E, C]⟩ : Shape).Idx → EReal) (n : Fin N) (c : Fin C) :
    Host.scatterAdd (F := Ideal) (φ := .f32) d x idx u (ix2 n c) = x (ix2 n c) + ∑ e ∈ named idx n, u (ix2 e c) := by
  obtain ⟨_, _, _, _, wf⟩ := d
  dsimp only at hu hn ho hi
  subst hu hn ho hi
  show Ideal.hostScatterAdd (intoRows wf) x idx u (ix2 n c) = _
  unfold Ideal.hostScatterAdd
  congr 1
  rw [Finset.sum_filter, sum_idx2, named, Finset.sum_filter]
  refine Finset.sum_congr rfl fun e _ => ?_
  rw [Finset.sum_eq_single c]
  · exact if_congr ((intoRows_lands wf idx e c n c).trans (and_iff_left rfl)) rfl rfl
  · intro k _ hk
    exact if_neg fun h => hk ((intoRows_lands wf idx e k n c).1 h).2
  · intro h; exact absurd (Finset.mem_univ c) h

theorem named_congr {idx idx' : (⟨2, ![E, 1]⟩ : Shape).Idx → BitVec 32} (h : ∀ e, idx (ix2 e 0) = idx' (ix2 e 0)) (n : Fin N) :
    named idx n = named idx' n := Finset.filter_congr fun e _ => by rw [h]

/-! ## Taking from a table -/

/-- What a word takes from a table of 10000 entries: the entry it names, or the undefined value when it names none. -/
def taken (f : Fin 10000 → EReal) (w : BitVec 32) : EReal := if h : w.toNat < 10000 then f ⟨w.toNat, h⟩ else ⊥

/-- A word counted from the end of a table of 10000 entries when it is negative. -/
def wrapped (w : BitVec 32) : BitVec 32 := Scalar.select (IntOp.cmpi .slt w 0#32) (IntOp.addi w 10000#32) w

theorem wrapped_of_named {w : BitVec 32} {n : Fin 10000} (h : w.toInt = (n.val : ℤ)) : wrapped w = w := by
  have hn := n.isLt
  have hw : w.toNat < 2 ^ 31 := by
    rw [BitVec.toInt_eq_toNat_cond] at h
    split at h <;> omega
  unfold wrapped
  have e := ofNat_toNat_self w
  generalize w.toNat = a at e hw
  subst e
  rw [choose_lt (b := 0) _ _ hw (by decide), if_neg (by omega)]

theorem taken_of_named {w : BitVec 32} {n : Fin 10000} (h : w.toInt = (n.val : ℤ)) (f : Fin 10000 → EReal) :
    taken f (wrapped w) = f n := by
  have hn := n.isLt
  have hw : w.toNat = n.val := by
    rw [BitVec.toInt_eq_toNat_cond] at h
    split at h <;> omega
  rw [wrapped_of_named h, taken, dif_pos (by omega)]
  exact congrArg f (Fin.ext hw)

/-- A product of two tables taken at a word: the product of what it takes from each, or it takes from none. -/
theorem taken_mul (f g : Fin 10000 → EReal) (w : BitVec 32) :
    taken (fun n => f n * g n) w = taken f w * taken g w
      ∨ (taken (fun n => f n * g n) w = ⊥ ∧ taken f w = ⊥ ∧ taken g w = ⊥) := by
  unfold taken
  by_cases h : w.toNat < 10000
  · exact .inl (by rw [dif_pos h, dif_pos h, dif_pos h])
  · exact .inr ⟨dif_neg h, dif_neg h, dif_neg h⟩

/-- The two comparisons of a word with the ends of the table. -/
def inTable (w : BitVec 32) : BitVec 1 := IntOp.andi (IntOp.cmpi .sge w 0#32) (IntOp.cmpi .sle w 9999#32)

theorem inTable_eq (w : BitVec 32) : inTable w = BitVec.ofBool (decide (w.toNat < 10000)) := by
  have e : (0#32).sle w = true ∧ w.sle 9999#32 = true ↔ w.toNat < 10000 := by
    simp only [BitVec.sle, decide_eq_true_eq]
    have h1 : (0#32).toInt = 0 := rfl
    have h2 : (9999#32).toInt = 9999 := rfl
    rw [h1, h2, BitVec.toInt_eq_toNat_cond]
    have := w.isLt
    split <;> omega
  unfold inTable IntOp.cmpi IntOp.andi
  rw [show decide (w.toNat < 10000) = ((0#32).sle w && w.sle 9999#32) by rw [Bool.eq_iff_iff]; simp [← e]]
  show BitVec.ofBool ((0#32).sle w) &&& BitVec.ofBool (w.sle 9999#32) = _
  cases (0#32).sle w <;> cases w.sle 9999#32 <;> rfl

/-- One word per entry: the conjunction over the single column of a mask is the mask. -/
theorem all_col (x : (⟨2, ![E, 1]⟩ : Shape).Idx → BitVec 1) (init : (⟨0, ![]⟩ : Shape).Idx → BitVec 1)
    (h : (⟨2, ![E, 1]⟩ : Shape).ReducesTo [1] ⟨1, ![E]⟩) (hu : 0 < (⟨0, ![]⟩ : Shape).numel) (h1 : ∀ i, init i = 1#1) (e : Fin E) :
    Host.reduce IntOp.andi x init h hu (ix1 e) = x (ix2 e 0) := by
  have hd : ∀ i, h.drop i = ix1 e → i = ix2 e 0 := by
    intro i hi
    have h0 : (h.drop i 0 : ℕ) = i 0 := Shape.ReducesTo.drop_apply_val h i 0
    have h0' : (i 0).val = e.val := by rw [← h0, hi]; rfl
    rw [eq_ix2 i]
    congr 1
    · exact Fin.ext h0'
    · exact Subsingleton.elim (α := Fin 1) _ _
  have hd' : h.drop (ix2 e 0) = ix1 e := by
    rw [eq_ix1 (h.drop (ix2 e 0))]
    congr 1
  by_cases hx : x (ix2 e 0) = 1#1
  · rw [hx, Host.reduce_eq_foldl]
    refine IntOp.foldl_andi_one x _ _ (h1 _) fun n hn => ?_
    rw [hd n (by simpa using (List.mem_filter.1 hn).2), hx]
  · have : Host.reduce IntOp.andi x init h hu (ix1 e) ≠ 1#1 := fun hc =>
      hx (Host.reduce_andi_eq_one x init h hu _ hc _ hd')
    have two : ∀ b : BitVec 1, b ≠ 1#1 → b = 0#1 := by decide
    rw [two _ this, two _ hx]

/-- A choice between what was gathered and the undefined value, at an entry of a vector. -/
theorem take_vec (d : GatherDims ⟨1, ![10000]⟩ ⟨2, ![E, 1]⟩ ⟨1, ![E]⟩) (hc : d.collapsedSliceDims = [0])
    (ho : d.operandBatchingDims = []) (hs : d.startIndexMap = [0]) (hi : d.indexVectorDim = 1)
    (x : (⟨1, ![10000]⟩ : Shape).Idx → EReal) (idx : (⟨2, ![E, 1]⟩ : Shape).Idx → BitVec 32) (e : Fin E) {w : BitVec 32}
    (hw : idx (ix2 e 0) = w) :
    Scalar.select (inTable w) (Host.gather d x idx (ix1 e)) ⊥ = taken (fun n => x (ix1 n)) w := by
  rw [inTable_eq, choose_bool, taken]
  split
  · next h =>
    have := Routing.gather_take1 d hc ho hs hi x idx e ⟨w.toNat, h⟩ (by
      rw [← ix2_eq_valueIdx, hw]; exact (ofNat_toNat_self w).symm) (by decide)
    rw [← ix1_eq_valueIdx, ← ix1_eq_valueIdx] at this
    exact this
  · rfl

/-- A choice between what was gathered and the undefined value, at an entry of a matrix. -/
theorem take_rows (d : GatherDims ⟨2, ![10000, C]⟩ ⟨2, ![E, 1]⟩ ⟨2, ![E, C]⟩) (hf : d.offsetDims = [1])
    (hc : d.collapsedSliceDims = [0]) (ho : d.operandBatchingDims = []) (hs : d.startIndexMap = [0]) (hi : d.indexVectorDim = 1)
    (x : (⟨2, ![10000, C]⟩ : Shape).Idx → EReal) (idx : (⟨2, ![E, 1]⟩ : Shape).Idx → BitVec 32) (e : Fin E) (k : Fin C)
    {w : BitVec 32} (hw : idx (ix2 e 0) = w) :
    Scalar.select (inTable w) (Host.gather d x idx (ix2 e k)) ⊥ = taken (fun n => x (ix2 n k)) w := by
  rw [inTable_eq, choose_bool, taken]
  split
  · next h =>
    have := Routing.gather_row d hf hc ho hs hi x idx e k ⟨w.toNat, h⟩ (by
      rw [← ix2_eq_valueIdx, hw]; exact (ofNat_toNat_self w).symm) (by decide)
    rw [← ix2_eq_valueIdx, ← ix2_eq_valueIdx] at this
    exact this
  · rfl

/-! ## The graph -/

/-- The edges of a list of edges that leave node `n`: an edge is a row of two words, the node it leaves and the node it enters. -/
def edges (g : (⟨2, ![320000, 2]⟩ : Shape).Idx → BitVec 32) (n : Fin 10000) : Finset (Fin 320000) :=
  Finset.univ.filter fun e => (g (ix2 e 0)).toInt = (n.val : ℤ)

theorem named_eq_edges {g : (⟨2, ![320000, 2]⟩ : Shape).Idx → BitVec 32} {idx : (⟨2, ![320000, 1]⟩ : Shape).Idx → BitVec 32}
    (h : ∀ e, idx (ix2 e 0) = g (ix2 e 0)) (n : Fin 10000) : named idx n = edges g n := by
  unfold named edges
  exact Finset.filter_congr fun e _ => by rw [h]

/-- How many edges leave a node. -/
def degree (g : (⟨2, ![320000, 2]⟩ : Shape).Idx → BitVec 32) (n : Fin 10000) : EReal := (((edges g n).card : ℝ) : EReal)

theorem sum_one (g : (⟨2, ![320000, 2]⟩ : Shape).Idx → BitVec 32) (n : Fin 10000) : ∑ _e ∈ edges g n, (1 : EReal) = degree g n := by
  rw [sum_const_ereal, mul_one, degree]

/-- A degree to the power minus one half, the zero degree to zero. -/
def invRoot (g : (⟨2, ![320000, 2]⟩ : Shape).Idx → BitVec 32) (n : Fin 10000) : EReal :=
  Ideal.pow (degree g n) (Ideal.ofBits .f32 0xBF000000#32)

theorem invRoot_real (g : (⟨2, ![320000, 2]⟩ : Shape).Idx → BitVec 32) (n : Fin 10000) :
    ∃ r : ℝ, invRoot g n = (r : EReal) ∧ 0 ≤ r ∧ (0 < (edges g n).card → 0 < r) := by
  have hc : ∃ c : ℝ, Ideal.ofBits .f32 0xBF000000#32 = (c : EReal) := by
    simp [Ideal.ofBits, Ideal.ieee]
    exact ⟨_, rfl⟩
  obtain ⟨c, hc⟩ := hc
  refine ⟨Real.rpow (edges g n).card c, by rw [invRoot, hc]; rfl, Real.rpow_nonneg (by positivity) c, fun h => ?_⟩
  exact Real.rpow_pos_of_pos (by exact_mod_cast h) c

theorem undefined_eq : Ideal.ofBits .f32 0x7FC00000#32 = ⊥ := by
  simp [Ideal.ofBits, Ideal.ieee]

end Cert.Qr
-- ==== Proof.Qr.KerHost.lean ====
/- What the kernel's host program computes before the panel is factored, read at an index: the aggregated features, transposed and
   padded with zeros, as sums over the edges that leave a node. -/
module

public import proofs.«01_k».proof.Proof.Qr.Launch
public import proofs.«01_k».proof.Proof.Qr.Route
public import Idealize.ShloMosaic.Lib.StableHlo.Run

@[expose] public section

set_option maxRecDepth 16384

noncomputable section

namespace Cert.KernelIdeal.Panel

open Idealize.ShloMosaic Idealize.ShloMosaic.TcCoe Cert.Qr Cert.KernelIdeal Cert.KernelIdeal.Gen

/-! ## The host program's values, as functions of what they are made of -/

/-- A vector of numbers at Ideal. -/
abbrev Nums (s : Shape) := (⟨s, .f32⟩ : BufTy).Contents (Elt Ideal)
/-- An array of words. -/
abbrev Wrds (s : Shape) := (⟨s, .i32⟩ : BufTy).Contents (Elt Ideal)

def sources (g : Wrds S320000x2) : Wrds S320000 :=
  shapeCast S320000 (extractStridedSlice S320000x1 ![0, 0] g slices_S320000x2_S320000x1_0_0) shapeCasts_S320000x1_S320000

def targets (g : Wrds S320000x2) : Wrds S320000 :=
  shapeCast S320000 (extractStridedSlice S320000x1 ![0, 1] g slices_S320000x2_S320000x1_0_1) shapeCasts_S320000x1_S320000

def degrees (s : Wrds S320000) : Nums S10000 :=
  Host.scatterAdd scatter_S10000_S320000x1_S320000_n_0_0_1
    (broadcastInDim S10000 ![] bcast_S_S10000 (constant (F := Ideal) S_ .f32 0x00000000#32))
    (broadcastInDim S320000x1 ![0] bcast_S320000_S320000x1_0 s)
    (broadcastInDim S320000 ![] bcast_S_S320000 (constant (F := Ideal) S_ .f32 0x3F800000#32))

def roots (d : Nums S10000) : Nums S10000 :=
  Host.powf (F := Ideal) (φ := .f32) d (broadcastInDim S10000 ![] bcast_S_S10000 (constant (F := Ideal) S_ .f32 0xBF000000#32))

/-- A number per node, at every one of its features. -/
def spread (r : Nums S10000) : Nums S10000x128 :=
  broadcastInDim S10000x128 ![0, 1] bcast_S10000x1_S10000x128_0_1 (broadcastInDim S10000x1 ![0] bcast_S10000_S10000x1_0 r)

def placed (d : Wrds S320000) : Wrds S320000x1 :=
  broadcastInDim S320000x1 ![0] bcast_S320000_S320000x1_0
    (select (cmpi .slt d (broadcastInDim S320000 ![] bcast_S_S320000 (constantI S_ 32 0#32)))
      (addi d (broadcastInDim S320000 ![] bcast_S_S320000 (constantI S_ 32 10000#32))) d)

def present (p : Wrds S320000x1) : S320000x1.Idx → BitVec 1 :=
  andi (cmpi .sge p (broadcastInDim S320000x1 ![] bcast_S_S320000x1 (constantI S_ 32 0#32)))
    (cmpi .sle p (broadcastInDim S320000x1 ![0, 1] bcast_S1x1_S320000x1_0_1
      (broadcastInDim S1x1 ![1] bcast_S1_S1x1_1 (constantI S1 32 9999#32))))

def allPresent (p : Wrds S320000x1) : S320000.Idx → BitVec 1 :=
  Host.reduce IntOp.andi (present p) (constantI S_ 1 1#1) reducesTo_S320000x1_S320000_d1 h_S_

def fetched (y : Nums S10000x128) (p : Wrds S320000x1) : Nums S320000x128 :=
  select (broadcastInDim S320000x128 ![0] bcast_S320000_S320000x128_0 (allPresent p))
    (Host.gather gather_S10000x128_S320000x1_S320000x128_1_0_n_n_0_1_1128 y p)
    (broadcastInDim S320000x128 ![] bcast_S_S320000x128 (constant (F := Ideal) S_ .f32 0x7FC00000#32))

def summed (s : Wrds S320000) (f : Nums S320000x128) : Nums S10000x128 :=
  Host.scatterAdd scatter_S10000x128_S320000x1_S320000x128_1_0_0_1
    (broadcastInDim S10000x128 ![] bcast_S_S10000x128 (constant (F := Ideal) S_ .f32 0x00000000#32))
    (broadcastInDim S320000x1 ![0] bcast_S320000_S320000x1_0 s) f

def someEdge (d : Nums S10000) : S10000x1.Idx → BitVec 1 :=
  cmpf (F := Ideal) (φ := .f32) .ogt (broadcastInDim S10000x1 ![0] bcast_S10000_S10000x1_0 d)
    (broadcastInDim S10000x1 ![] bcast_S_S10000x1 (constant (F := Ideal) S_ .f32 0x00000000#32))

def kept (b : S10000x1.Idx → BitVec 1) (f : Nums S10000x128) (z : Nums S_) : Nums S10000x128 :=
  select (broadcastInDim S10000x128 ![0, 1] bcast_S10000x1_S10000x128_0_1 b) f
    (broadcastInDim S10000x128 ![] bcast_S_S10000x128 (id z))

def mixed (r : Nums S10000) (z w : Nums S10000x128) : Nums S128x10000 :=
  transpose S128x10000 [1, 0]
    (addf (F := Ideal) (φ := .f32)
      (mulf (F := Ideal) (φ := .f32) (broadcastInDim S10000x128 ![0, 1] bcast_S10000x1_S10000x128_0_1
        (mulf (F := Ideal) (φ := .f32) (broadcastInDim S10000x1 ![] bcast_S_S10000x1 (constant (F := Ideal) S_ .f32 0x3F000000#32))
          (broadcastInDim S10000x1 ![0] bcast_S10000_S10000x1_0 r))) z)
      (mulf (F := Ideal) (φ := .f32)
        (broadcastInDim S10000x128 ![] bcast_S_S10000x128 (constant (F := Ideal) S_ .f32 0x3F000000#32)) w))
    transposes_S10000x128_S128x10000_1_0

/-! ## Each stretch computes them -/

section Stretches

variable (V : Valuation τ sig (Elt Ideal))

theorem sources_eq : StableHlo.after hostOps0 V main_v1 = sources (V main_arg1) := by
  unfold hostOps0; after_results_simp; rfl

theorem targets_eq : StableHlo.after hostOps0 V main_v3 = targets (V main_arg1) := by
  unfold hostOps0; after_results_simp; rfl

theorem degrees_eq : StableHlo.after hostOps0 V main_v7 = degrees (sources (V main_arg1)) := by
  unfold hostOps0; after_results_simp; rfl

theorem roots_eq : StableHlo.after hostOps0 V main_v9 = roots (degrees (sources (V main_arg1))) := by
  unfold hostOps0; after_results_simp; rfl

theorem scaled_eq : StableHlo.after hostOps0 V main_v12
    = mulf (F := Ideal) (φ := .f32) (spread (roots (degrees (sources (V main_arg1))))) (V main_arg0) := by
  unfold hostOps0; after_results_simp; rfl

theorem fetched_eq : StableHlo.after hostOps0_1 V main_v13 = fetched (V main_v12) (placed (V main_v3)) := by
  unfold hostOps0_1
  after_results_simp
  have h3 : (StableHlo.TRef.of main_v3 : StableHlo.TRef sig ⟨S320000, .i32⟩).ofBuf (V main_v3) = V main_v3 := rfl
  have h12 : (StableHlo.TRef.of main_v12 : StableHlo.TRef sig ⟨S10000x128, .f32⟩).ofBuf (V main_v12) = V main_v12 := rfl
  have h13 : ∀ x, (StableHlo.TRef.of main_v13 : StableHlo.TRef sig ⟨S320000x128, .f32⟩).toBuf (Val := Elt Ideal) x = x :=
    fun _ => rfl
  simp only [StableHlo.TRef.ofBuf_toBuf]
  rw [h3, h12]
  refine (h13 _).trans ?_
  unfold fetched allPresent present placed
  rfl

theorem summed_eq : StableHlo.after hostOps0_2 V main_v16 = summed (V main_v1) (V main_v13) := by
  unfold hostOps0_2; after_results_simp; rfl

theorem someEdge_eq : StableHlo.after hostOps0_2 V main_v19 = someEdge (V main_v7) := by
  unfold hostOps0_2; after_results_simp; rfl

theorem own_eq : StableHlo.after hostOps0_2 V main_v22 = mulf (F := Ideal) (φ := .f32) (spread (V main_v7)) (V main_arg0) := by
  unfold hostOps0_2; after_results_simp; rfl

theorem none_eq : StableHlo.after hostOps0_2 V main_cst_4 = constant (F := Ideal) S_ .f32 0x00000000#32 := by
  unfold hostOps0_2; after_results_simp

theorem kept_eq : StableHlo.after hostOps0_3 V main_v23 = kept (V main_v19) (V main_v22) (V main_cst_4) := by
  unfold hostOps0_3; after_results_simp; rfl

theorem mixed_eq : StableHlo.after hostOps0_4 V main_v32 = mixed (V main_v9) (V main_v16) (V main_v23) := by
  unfold hostOps0_4; after_results_simp; rfl

theorem zero_eq : StableHlo.after hostOps0_4 V main_c = constantI S_ 32 0#32 := by
  unfold hostOps0_4; after_results_simp

theorem padded_eq : StableHlo.after hostOps0_5 V main_v33
    = pad S128x10240 ![0, 0] ![0, 240] ![0, 0] (V main_v32) (sitofp (F := Ideal) .f32 (V main_c)) pads_S128x10000_S128x10240_000_02400 h_S_ := by
  unfold hostOps0_5; after_results_simp; rfl

end Stretches

/-! ## The values at an index -/

section Values

variable (g : Wrds S320000x2) (x : Nums S10000x128)

theorem sources_at (e : Fin 320000) : sources g (ix1 e) = g (ix2 e 0) := by
  pointwise [sources]

theorem targets_at (e : Fin 320000) : targets g (ix1 e) = g (ix2 e 1) := by
  pointwise [targets]

theorem degrees_at (n : Fin 10000) : degrees (sources g) (ix1 n) = degree g n := by
  refine (intoVec_at _ rfl rfl rfl rfl _ _ _ n).trans ?_
  pointwise []
  rw [named_eq_edges (g := g) (fun e => by pointwise [sources_at]), sum_one]

theorem roots_at (n : Fin 10000) : roots (degrees (sources g)) (ix1 n) = invRoot g n := by
  pointwise [roots, degrees_at]
  rfl

theorem placed_at (d : Wrds S320000) (e : Fin 320000) : placed d (ix2 e 0) = wrapped (d (ix1 e)) := by
  pointwise [placed]
  rfl

theorem allPresent_at (d : Wrds S320000) (e : Fin 320000) : allPresent (placed d) (ix1 e) = inTable (wrapped (d (ix1 e))) := by
  refine (all_col _ _ reducesTo_S320000x1_S320000_d1 h_S_ (fun i => by pointwise []) e).trans ?_
  pointwise [present, placed_at]
  rfl

theorem fetched_at (y : Nums S10000x128) (d : Wrds S320000) (e : Fin 320000) (k : Fin 128) :
    fetched y (placed d) (ix2 e k) = taken (fun n => y (ix2 n k)) (wrapped (d (ix1 e))) := by
  pointwise [fetched, allPresent_at, undefined_eq]
  exact take_rows _ rfl rfl rfl rfl rfl _ _ e k (placed_at d e)

/-- A node's own features scaled by its degree to the power minus one half, summed over the edges at the nodes they enter. -/
theorem summed_at (n : Fin 10000) (k : Fin 128) :
    summed (sources g) (fetched (mulf (F := Ideal) (φ := .f32) (spread (roots (degrees (sources g)))) x) (placed (targets g))) (ix2 n k)
      = ∑ e ∈ edges g n, taken (fun n => invRoot g n * x (ix2 n k)) (wrapped (g (ix2 e 1))) := by
  refine (intoRows_at _ rfl rfl rfl rfl _ _ _ n k).trans ?_
  pointwise [fetched_at, targets_at, spread, roots_at]
  rw [named_eq_edges (g := g) (fun e => by pointwise [sources_at])]

theorem own_at (n : Fin 10000) (k : Fin 128) :
    kept (someEdge (degrees (sources g))) (mulf (F := Ideal) (φ := .f32) (spread (degrees (sources g))) x)
        (constant (F := Ideal) S_ .f32 0x00000000#32) (ix2 n k)
      = if 0 < degree g n then degree g n * x (ix2 n k) else 0 := by
  pointwise [kept, someEdge, spread, degrees_at, id_eq]

theorem mixed_at (z w : Nums S10000x128) (n : Fin 10000) (k : Fin 128) :
    mixed (roots (degrees (sources g))) z w (ix2 k n)
      = Ideal.ofBits .f32 0x3F000000#32 * invRoot g n * z (ix2 n k) + Ideal.ofBits .f32 0x3F000000#32 * w (ix2 n k) := by
  pointwise [mixed, roots_at]

end Values

/-! ## The panel's input -/

variable (m : (ℓ : Loc nD τ sig) → Buf (Elt Ideal) ℓ) (ρ : Dev nD → PrngReg) (c : Dev nD)

/-- The features and the edges at the launch. -/
abbrev feats : Nums S10000x128 := m ((c.tc : Thread nD τ).loc main_arg0)
abbrev graph : Wrds S320000x2 := m ((c.tc : Thread nD τ).loc main_arg1)

theorem whole_eq : padded m ρ c = pad S128x10240 ![0, 0] ![0, 240] ![0, 0]
    (mixed (roots (degrees (sources (graph m c))))
      (summed (sources (graph m c)) (fetched (mulf (F := Ideal) (φ := .f32) (spread (roots (degrees (sources (graph m c)))))
        (feats m c)) (placed (targets (graph m c)))))
      (kept (someEdge (degrees (sources (graph m c)))) (mulf (F := Ideal) (φ := .f32) (spread (degrees (sources (graph m c))))
        (feats m c)) (constant (F := Ideal) S_ .f32 0x00000000#32)))
    (sitofp (F := Ideal) .f32 (constantI S_ 32 0#32)) pads_S128x10000_S128x10240_000_02400 h_S_ := by
  have a1 : W0 m ρ c main_arg1 = graph m c := rfl
  have a0 : W0 m ρ c main_arg0 = feats m c := rfl
  have a2 : W2 m ρ c main_arg0 = feats m c := W2_args m ρ c main_arg0 (by decide)
  have e1 : W1 m ρ c main_v1 = sources (graph m c) := (sources_eq _).trans (by rw [a1])
  have e3 : W1 m ρ c main_v3 = targets (graph m c) := (targets_eq _).trans (by rw [a1])
  have e7 : W1 m ρ c main_v7 = degrees (sources (graph m c)) := (degrees_eq _).trans (by rw [a1])
  have e9 : W1 m ρ c main_v9 = roots (degrees (sources (graph m c))) := (roots_eq _).trans (by rw [a1])
  have e12 := (scaled_eq (W0 m ρ c))
  rw [a1, a0] at e12
  have e13 : W2 m ρ c main_v13 = _ := (fetched_eq _).trans (congrArg₂ (fun y t => fetched y (placed t)) e12 e3)
  have f1 : W2 m ρ c main_v1 = _ := (W2_of m ρ c main_v1 (by decide)).trans e1
  have f7 : W2 m ρ c main_v7 = _ := (W2_of m ρ c main_v7 (by decide)).trans e7
  have e16 : W3 m ρ c main_v16 = _ := (summed_eq _).trans (congrArg₂ summed f1 e13)
  have e19 : W3 m ρ c main_v19 = _ := (someEdge_eq _).trans (congrArg someEdge f7)
  have e22 : W3 m ρ c main_v22 = _ :=
    (own_eq _).trans (congrArg₂ (fun d y => mulf (F := Ideal) (φ := .f32) (spread d) y) f7 a2)
  have e4 : W3 m ρ c main_cst_4 = _ := none_eq _
  have e23 : W4 m ρ c main_v23 = _ :=
    (kept_eq _).trans ((congrArg₂ (fun b f => kept b f (W3 m ρ c main_cst_4)) e19 e22).trans (congrArg (kept _ _) e4))
  have f16 : W4 m ρ c main_v16 = _ := (W4_of m ρ c main_v16 (by decide)).trans e16
  have f9 : W4 m ρ c main_v9 = _ := (W4_of m ρ c main_v9 (by decide)).trans
    ((W3_of m ρ c main_v9 (by decide)).trans ((W2_of m ρ c main_v9 (by decide)).trans e9))
  have e32 : W5 m ρ c main_v32 = _ :=
    (mixed_eq _).trans ((congrArg₂ (fun r z => mixed r z (W4 m ρ c main_v23)) f9 f16).trans (congrArg (mixed _ _) e23))
  have e0 : W5 m ρ c main_c = _ := zero_eq _
  exact (padded_eq _).trans (congrArg₂ (fun (y : Nums S128x10000) (z : Wrds S_) => pad S128x10240 ![0, 0] ![0, 240] ![0, 0] y
    (sitofp (F := Ideal) .f32 z) pads_S128x10000_S128x10240_000_02400 h_S_) e32 e0)

/-- The panel's input at a node's place. -/
theorem padded_node (k : Fin 128) (n : Fin 10000) :
    ent (padded m ρ c) k (Fin.castLE (by decide) n)
      = Ideal.ofBits .f32 0x3F000000#32 * invRoot (graph m c) n
          * (∑ e ∈ edges (graph m c) n, taken (fun n => invRoot (graph m c) n * feats m c (ix2 n k)) (wrapped (graph m c (ix2 e 1))))
        + Ideal.ofBits .f32 0x3F000000#32
          * (if 0 < degree (graph m c) n then degree (graph m c) n * feats m c (ix2 n k) else 0) := by
  unfold ent
  rw [whole_eq]
  pointwise []
  refine (dif_pos n.isLt).trans ?_
  refine (mixed_at _ _ _ n k).trans ?_
  rw [summed_at, own_at]

/-- The panel's input past the last node is zero. -/
theorem padded_past (k : Fin 128) (i : Fin 10240) (hi : 10000 ≤ i.val) : ent (padded m ρ c) k i = 0 := by
  unfold ent
  rw [whole_eq]
  pointwise []
  refine (dif_neg (by omega)).trans ?_
  show ((((0#32 : BitVec 32).toInt : ℝ)) : EReal) = 0
  simp

end Cert.KernelIdeal.Panel
-- ==== Proof.Qr.RefHost.lean ====
/- What the reference computes before its loop, read at an index: the aggregated features, as sums over the edges that leave a
   node. -/
module

public import proofs.«01_k».proof.Proof.Gen.ReferenceIdeal.Step
public import proofs.«01_k».proof.Proof.Qr.Route

@[expose] public section

set_option maxRecDepth 16384

noncomputable section

namespace Cert.ReferenceIdeal.Step

open Idealize.ShloMosaic Idealize.ShloMosaic.TcCoe Cert.Qr Cert.ReferenceIdeal.Gen

variable (x : (⟨S10000x128, .f32⟩ : BufTy).Contents (Elt Ideal)) (g : (⟨S320000x2, .i32⟩ : BufTy).Contents (Elt Ideal))

theorem source_at (e : Fin 320000) : A_main_v1 x g (ix1 e) = g (ix2 e 0) := by
  pointwise [A_main_v1, A_main_v0]

theorem target_at (e : Fin 320000) : A_main_v3 x g (ix1 e) = g (ix2 e 1) := by
  pointwise [A_main_v3, A_main_v2]

theorem degree_at (n : Fin 10000) : A_main_v41 x g (ix1 n) = degree g n := by
  refine (intoVec_at _ rfl rfl rfl rfl _ _ _ n).trans ?_
  pointwise [K_main_v39, K_main_v38, K_main_cst_11, K_main_cst_10]
  rw [named_eq_edges (g := g) (fun e => by pointwise [A_main_v40, source_at]), sum_one]

theorem root_at (n : Fin 10000) : A_main_v43 x g (ix1 n) = invRoot g n := by
  pointwise [A_main_v43, K_main_v42, K_main_cst_12, degree_at]
  rfl

theorem place9_at (e : Fin 320000) : A_main_v9 x g (ix2 e 0) = wrapped (g (ix2 e 1)) := by
  pointwise [A_main_v9, A_main_v8, A_main_v5, K_main_v4, K_main_c, A_main_v7, K_main_v6, K_main_c_0, target_at]
  rfl

theorem mask16_at (e : Fin 320000) : A_main_v16 x g (ix1 e) = inTable (wrapped (g (ix2 e 1))) := by
  refine (all_col _ _ reducesTo_S320000x1_S320000_d1 h_S_ (fun i => by pointwise [K_main_c_3]) e).trans ?_
  pointwise [A_main_v15, A_main_v11, K_main_v10, K_main_c_2, A_main_v14, K_main_v13, K_main_v12, K_main_c_1, place9_at]
  rfl

theorem neighbour_at (e : Fin 320000) (k : Fin 128) :
    A_main_v20 x g (ix2 e k) = taken (fun n => x (ix2 n k)) (wrapped (g (ix2 e 1))) := by
  pointwise [A_main_v20, A_main_v18, mask16_at, K_main_v19, K_main_cst, undefined_eq, A_main_v17]
  exact take_rows _ rfl rfl rfl rfl rfl _ _ e k (place9_at x g e)

theorem place26_at (e : Fin 320000) : A_main_v26 x g (ix2 e 0) = wrapped (g (ix2 e 0)) := by
  pointwise [A_main_v26, A_main_v25, A_main_v22, K_main_v21, K_main_c_4, A_main_v24, K_main_v23, K_main_c_5, source_at]
  rfl

theorem mask33_at (e : Fin 320000) : A_main_v33 x g (ix1 e) = inTable (wrapped (g (ix2 e 0))) := by
  refine (all_col _ _ reducesTo_S320000x1_S320000_d1 h_S_ (fun i => by pointwise [K_main_c_8]) e).trans ?_
  pointwise [A_main_v32, A_main_v28, K_main_v27, K_main_c_7, A_main_v31, K_main_v30, K_main_v29, K_main_c_6, place26_at]
  rfl

theorem own_at (e : Fin 320000) (k : Fin 128) :
    A_main_v37 x g (ix2 e k) = taken (fun n => x (ix2 n k)) (wrapped (g (ix2 e 0))) := by
  pointwise [A_main_v37, A_main_v35, mask33_at, K_main_v36, K_main_cst_9, undefined_eq, A_main_v34]
  exact take_rows _ rfl rfl rfl rfl rfl _ _ e k (place26_at x g e)

theorem place49_at (e : Fin 320000) : A_main_v49 x g (ix2 e 0) = wrapped (g (ix2 e 0)) := by
  pointwise [A_main_v49, A_main_v48, A_main_v45, K_main_v44, K_main_c_13, A_main_v47, K_main_v46, K_main_c_14, source_at]
  rfl

theorem mask56_at (e : Fin 320000) : A_main_v56 x g (ix1 e) = inTable (wrapped (g (ix2 e 0))) := by
  refine (all_col _ _ reducesTo_S320000x1_S320000_d1 h_S_ (fun i => by pointwise [K_main_c_17]) e).trans ?_
  pointwise [A_main_v55, A_main_v51, K_main_v50, K_main_c_16, A_main_v54, K_main_v53, K_main_v52, K_main_c_15, place49_at]
  rfl

theorem sourceRoot_at (e : Fin 320000) :
    A_main_v59 x g (ix1 e) = taken (fun n => invRoot g n) (wrapped (g (ix2 e 0))) := by
  pointwise [A_main_v59, mask56_at, K_main_v58, K_main_cst_18, undefined_eq, A_main_v57]
  refine (take_vec _ rfl rfl rfl rfl _ _ e (place49_at x g e)).trans ?_
  exact congrArg (fun f => taken f _) (funext fun n => root_at x g n)

theorem place65_at (e : Fin 320000) : A_main_v65 x g (ix2 e 0) = wrapped (g (ix2 e 0)) := by
  pointwise [A_main_v65, A_main_v64, A_main_v61, K_main_v60, K_main_c_19, A_main_v63, K_main_v62, K_main_c_20, source_at]
  rfl

theorem mask72_at (e : Fin 320000) : A_main_v72 x g (ix1 e) = inTable (wrapped (g (ix2 e 0))) := by
  refine (all_col _ _ reducesTo_S320000x1_S320000_d1 h_S_ (fun i => by pointwise [K_main_c_23]) e).trans ?_
  pointwise [A_main_v71, A_main_v67, K_main_v66, K_main_c_22, A_main_v70, K_main_v69, K_main_v68, K_main_c_21, place65_at]
  rfl

theorem sourceDegree_at (e : Fin 320000) :
    A_main_v75 x g (ix1 e) = taken (fun n => degree g n) (wrapped (g (ix2 e 0))) := by
  pointwise [A_main_v75, mask72_at, K_main_v74, K_main_cst_24, undefined_eq, A_main_v73]
  refine (take_vec _ rfl rfl rfl rfl _ _ e (place65_at x g e)).trans ?_
  exact congrArg (fun f => taken f _) (funext fun n => degree_at x g n)

theorem place83_at (e : Fin 320000) : A_main_v83 x g (ix2 e 0) = wrapped (g (ix2 e 1)) := by
  pointwise [A_main_v83, A_main_v82, A_main_v79, K_main_v78, K_main_c_25, A_main_v81, K_main_v80, K_main_c_26, target_at]
  rfl

theorem mask90_at (e : Fin 320000) : A_main_v90 x g (ix1 e) = inTable (wrapped (g (ix2 e 1))) := by
  refine (all_col _ _ reducesTo_S320000x1_S320000_d1 h_S_ (fun i => by pointwise [K_main_c_29]) e).trans ?_
  pointwise [A_main_v89, A_main_v85, K_main_v84, K_main_c_28, A_main_v88, K_main_v87, K_main_v86, K_main_c_27, place83_at]
  rfl

theorem targetRoot_at (e : Fin 320000) :
    A_main_v93 x g (ix1 e) = taken (fun n => invRoot g n) (wrapped (g (ix2 e 1))) := by
  pointwise [A_main_v93, mask90_at, K_main_v92, K_main_cst_30, undefined_eq, A_main_v91]
  refine (take_vec _ rfl rfl rfl rfl _ _ e (place83_at x g e)).trans ?_
  exact congrArg (fun f => taken f _) (funext fun n => root_at x g n)

theorem mixed_at (n : Fin 10000) (k : Fin 128) :
    A_main_v102 x g (ix2 n k) = ∑ e ∈ edges g n, taken (invRoot g) (wrapped (g (ix2 e 1)))
      * (taken (invRoot g) (wrapped (g (ix2 e 0))) * taken (fun n => x (ix2 n k)) (wrapped (g (ix2 e 1)))) := by
  refine (intoRows_at _ rfl rfl rfl rfl _ _ _ n k).trans ?_
  pointwise [K_main_v100, K_main_cst_31, A_main_v99, A_main_v98, A_main_v97, A_main_v96, A_main_v95, A_main_v94, targetRoot_at,
    sourceRoot_at, neighbour_at]
  rw [named_eq_edges (g := g) (fun e => by pointwise [A_main_v101, source_at])]

theorem total_at (n : Fin 10000) (k : Fin 128) :
    A_main_v108 x g (ix2 n k) = ∑ e ∈ edges g n, taken (degree g) (wrapped (g (ix2 e 0)))
      * taken (fun n => x (ix2 n k)) (wrapped (g (ix2 e 0))) := by
  refine (intoRows_at _ rfl rfl rfl rfl _ _ _ n k).trans ?_
  pointwise [K_main_v106, K_main_cst_33, A_main_v105, A_main_v77, A_main_v76, sourceDegree_at, own_at]
  rw [named_eq_edges (g := g) (fun e => by pointwise [A_main_v107, source_at])]

/-- The aggregated features: half of the features the neighbours pass on, and half of the mean of a node's own over its edges. -/
theorem features_at (n : Fin 10000) (k : Fin 128) :
    A_main_v119 x g (ix2 n k) = Ideal.ofBits .f32 0x3F000000#32 * (∑ e ∈ edges g n, taken (invRoot g) (wrapped (g (ix2 e 1)))
        * (taken (invRoot g) (wrapped (g (ix2 e 0))) * taken (fun n => x (ix2 n k)) (wrapped (g (ix2 e 1)))))
      + Ideal.ofBits .f32 0x3F000000#32 * (if 0 < degree g n then
          Ideal.div (∑ e ∈ edges g n, taken (degree g) (wrapped (g (ix2 e 0)))
            * taken (fun n => x (ix2 n k)) (wrapped (g (ix2 e 0)))) (max (degree g n) 1) else 0) := by
    pointwise [A_main_v119, A_main_v118, A_main_v116, A_main_v104, A_main_call0_v1, A_main_v111, A_main_v109, A_main_v115,
    A_main_v114,
    A_main_v113, K_main_v103, K_main_cst_32, K_main_v117, K_main_cst_37, K_main_v110, K_main_cst_34, K_main_v112, K_main_cst_35,
    K_main_call0_v2, K_main_call0_v0, id_eq, K_main_cst_36, degree_at, mixed_at, total_at]

end Cert.ReferenceIdeal.Step
-- ==== Proof.Qr.RefStep.lean ====
/- One trip of the reference's loop, read at an index: it is the textbook reflection of the matrix and of the product. -/
module

public import proofs.«01_k».proof.Proof.Gen.ReferenceIdeal.Step
public import proofs.«01_k».proof.Proof.Qr.Panel
public import proofs.«01_k».proof.Proof.Qr.Words

@[expose] public section

set_option maxRecDepth 16384

noncomputable section

namespace Cert.ReferenceIdeal.Step

open Idealize.ShloMosaic Idealize.ShloMosaic.TcCoe Cert.Qr

theorem le_rows : 128 ≤ 10000 := by decide

variable (j : Fin 128) (s : State Ideal)

theorem small : j.val < 2 ^ 31 := by have := j.isLt; omega

theorem start_word : Scalar.select (IntOp.cmpi .slt (BitVec.ofNat 32 j.val) 0#32)
    (IntOp.addi (BitVec.ofNat 32 j.val) 128#32) (BitVec.ofNat 32 j.val) = BitVec.ofNat 32 j.val := by
  rw [choose_lt (b := 0) _ _ (small j) (by decide), if_neg (by omega)]

theorem b13_at (i : Fin 10000) : b13 j.val s (ix1 i) = s.main_v127_3 (ix2 i j) := by
  pointwise [b13, b12]
  congr 2
  · apply Fin.ext
    show Host.clampedStart _ _ _ _ _ + i.val = i.val
    simp [Host.clampedStart]
  · apply Fin.ext
    have e : ((b10 j.val s (Shape.Idx.first Gen.h_S_) : BitVec 32)).toInt = (j.val : ℤ) :=
      (congrArg BitVec.toInt (start_word j)).trans (by
        rw [BitVec.toInt_eq_toNat_of_lt] <;> rw [BitVec.toNat_ofNat] <;> omega)
    show (min (max (b10 j.val s (Shape.Idx.first Gen.h_S_) : BitVec 32).toInt 0) ((128 - 1 : ℕ) : ℤ)).toNat = j.val
    rw [e]
    have := j.isLt
    omega

theorem b17_at (i : Fin 10000) : b17 j.val s (ix1 i) = tail (fun i => s.main_v127_3 (ix2 i j)) j i := by
  pointwise [b17, b4, b3, b2, K_main_v120, b16, b15, b14, id_eq, b13_at]
  rw [choose_ge _ _ (by omega) (small j)]
  rfl

theorem b26_at : b26 j.val s ix0 = s.main_v127_3 (ix2 (Fin.castLE le_rows j) j) := by
  pointwise [b26, b25, b24, b23, b22, b21, b20, b19, b18, K_main_v120, id_eq, b17_at]
  have h (i : Fin 10000) (x : EReal) : Scalar.select (IntOp.cmpi .eq (BitVec.ofNat 32 i.val) (BitVec.ofNat 32 j.val)) x 0
      = if i = Fin.castLE le_rows j then x else 0 := by
    rw [choose_eq _ _ (by omega) (by omega)]
    exact if_congr (by rw [Fin.ext_iff]; rfl) rfl rfl
  simp only [h, Finset.sum_ite_eq', Finset.mem_univ, if_true]
  exact if_pos (le_refl _)

theorem b29_at : b29 j.val s ix0 = Qr.sq (tail (fun i => s.main_v127_3 (ix2 i j)) j) := by
  pointwise [b29, b28, b27, b17_at]
  rfl

theorem tail_pivot : tail (fun i => s.main_v127_3 (ix2 i j)) j (Fin.castLE le_rows j)
    = s.main_v127_3 (ix2 (Fin.castLE le_rows j) j) := if_pos (le_refl _)

theorem b34_at : b34 j.val s ix0 = beta (tail (fun i => s.main_v127_3 (ix2 i j)) j (Fin.castLE le_rows j))
    (Qr.sq (tail (fun i => s.main_v127_3 (ix2 i j)) j)) := by
  pointwise [b34, b33, b32, b31, b30, b26_at, b29_at]
  rw [tail_pivot, beta, zero_sub]

theorem b44_at : b44 j.val s ix0 = tau (tail (fun i => s.main_v127_3 (ix2 i j)) j) (Fin.castLE le_rows j) := by
  pointwise [b44, b43, b42, b41, b40, b39, b38, b37, b36, b35, b30, b29_at, b34_at, b26_at]
  rw [← tail_pivot]
  exact tau_eq _ _

theorem b57_at (i : Fin 10000) :
    b57 j.val s (ix1 i) = refl (tail (fun i => s.main_v127_3 (ix2 i j)) j) (Fin.castLE le_rows j) i := by
  pointwise [b57, b56, b55, b54, b53, b52, b51, b50, b49, b48, b47, b46, b45, b36, b35, b30, K_main_v120, id_eq, b29_at,
    b34_at, b26_at, b17_at]
  rw [choose_eq _ _ (by omega) (by omega), ← tail_pivot, ← refl_eq (tail (fun i => s.main_v127_3 (ix2 i j)) j)]
  exact if_congr (by rw [Fin.ext_iff]; rfl) rfl rfl

/-- The matrix after a trip. -/
theorem step_matrix (i : Fin 10000) (k : Fin 128) : (step j.val s).main_v127_3 (ix2 i k)
    = loopA le_rows (fun i k => s.main_v127_3 (ix2 i k)) j i k := by
  rw [step_main_v127_3]
  pointwise [b66, b65, b64, b63, b62, b61, b60, b59, b58, b57_at, b44_at]
  rfl

/-- The product after a trip. -/
theorem step_product (r c : Fin 10000) : (step j.val s).main_v127_4 (ix2 r c)
    = loopQ le_rows (fun i k => s.main_v127_3 (ix2 i k)) (fun r c => s.main_v127_4 (ix2 r c)) j r c := by
  rw [step_main_v127_4]
  pointwise [b75, b74, b73, b72, b71, b70, b69, b68, b67, b57_at, b44_at]
  rfl

/-- The product starts at the identity. -/
theorem product_start (r c : Fin 10000) :
    K_main_v126 (F := Ideal) (ix2 r c) = (if r = c then (1 : EReal) else 0) := by
  pointwise [K_main_v126, K_main_v125, K_main_v124, K_main_v123, K_main_c_38, K_main_v122, K_main_v121]
  rw [show IntOp.addi (BitVec.ofNat 32 r.val) 0#32 = BitVec.ofNat 32 r.val from BitVec.add_zero _,
    WordCmp.cmpi_eq_ofNat (by omega) (by omega)]
  by_cases h : r = c
  · simp [FloatOps.uitofp, h]
  · simp [FloatOps.uitofp, h, Fin.val_ne_of_ne h]

end Cert.ReferenceIdeal.Step

end
-- ==== Proof.Qr.Whole.lean ====
/- The kernel's result is the reference's: the panel and the reference's loop start from features that agree up to the sign of an
   infinity, every trip keeps what relates them, and the compact form that the panel ends with is the loop's product. -/
module

public import proofs.«01_k».proof.Defs
public import proofs.«01_k».proof.Proof.Gen.ReferenceIdeal.StepRun
public import proofs.«01_k».proof.Proof.Qr.KerHost
public import proofs.«01_k».proof.Proof.Qr.RefHost
public import proofs.«01_k».proof.Proof.Qr.RefStep

@[expose] public section

noncomputable section

namespace Cert.Whole

open Idealize.ShloMosaic Idealize.ShloMosaic.TcCoe Idealize.SL.Sem Cert.Qr
open Cert.KernelIdeal.Panel (ent start padded feats graph)
open Cert.ReferenceIdeal.Step (State step le_rows)

/-- The reference's states. -/
def refIter (s : State Ideal) : ℕ → State Ideal
  | 0 => s
  | n + 1 => step n (refIter s n)

/-- A trip of the panel. -/
theorem panel_succ (s : Cert.KernelIdeal.Panel.Panel) {n : ℕ} (h : n < 128) :
    s.run (n + 1) = ⟨panelA Cert.KernelIdeal.Panel.le_pad (s.run n).a ⟨n, h⟩,
      panelV Cert.KernelIdeal.Panel.le_pad (s.run n).a (s.run n).v ⟨n, h⟩,
      panelT Cert.KernelIdeal.Panel.le_pad (s.run n).a (panelV Cert.KernelIdeal.Panel.le_pad (s.run n).a (s.run n).v ⟨n, h⟩)
        (s.run n).t ⟨n, h⟩⟩ := by
  show (if h : n < 128 then _ else _) = _
  rw [dif_pos h]

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem le_wide : 10000 ≤ 10240 := by decide

/-- The two programs aggregate the same features, up to the sign of an infinity. -/
theorem features_sim (k : Fin 128) (n : Fin 10000) :
    Sim (ent (padded m ρ c) k (Fin.castLE le_wide n))
      (Cert.ReferenceIdeal.Step.A_main_v119 (feats m c) (graph m c) (ix2 n k)) := by
  rw [Cert.ReferenceIdeal.Step.features_at]
  refine (Sim.of_eq (Cert.KernelIdeal.Panel.padded_node m ρ c k n)).trans ?_
  obtain ⟨r, hr, h0, hpos⟩ := invRoot_real (graph m c) n
  have hn : ∀ e ∈ edges (graph m c) n, (graph m c (ix2 e 0)).toInt = (n.val : ℤ) := fun e he => (Finset.mem_filter.1 he).2
  exact aggregate_sim (edges (graph m c) n) hr h0 hpos rfl
    (st := fun e => taken (invRoot (graph m c)) (wrapped (graph m c (ix2 e 0))))
    (sd := fun e => taken (degree (graph m c)) (wrapped (graph m c (ix2 e 0))))
    (sx := fun e => taken (fun n => feats m c (ix2 n k)) (wrapped (graph m c (ix2 e 0))))
    (fun e he => taken_of_named (hn e he) _) (fun e he => taken_of_named (hn e he) _)
    (fun e he => taken_of_named (hn e he) _) (fun e _ => taken_mul _ _ _)

/-- What relates the panel to the loop holds before every trip. -/
theorem related : ∀ n ≤ 128, Inv le_wide n ((start (padded m ρ c)).run n).a ((start (padded m ρ c)).run n).v
    ((start (padded m ρ c)).run n).t
    (fun i k => (refIter (Cert.ReferenceIdeal.Step.init (feats m c) (graph m c)) n).main_v127_3 (ix2 i k))
    (fun r q => (refIter (Cert.ReferenceIdeal.Step.init (feats m c) (graph m c)) n).main_v127_4 (ix2 r q))
  | 0, _ => Inv.init le_wide (fun k i => features_sim m ρ c k i)
      (fun k i hi => Cert.KernelIdeal.Panel.padded_past m ρ c k i hi) (fun _ _ => rfl) (fun _ _ => rfl)
      (fun r q => Cert.ReferenceIdeal.Step.product_start r q)
  | n + 1, hn => by
    have h : n < 128 := hn
    have ih := related n (Nat.le_of_lt h)
    have e3 : (fun i k => (refIter (Cert.ReferenceIdeal.Step.init (feats m c) (graph m c)) (n + 1)).main_v127_3 (ix2 i k)) = _ :=
      funext fun i => funext fun k => Cert.ReferenceIdeal.Step.step_matrix ⟨n, h⟩
        (refIter (Cert.ReferenceIdeal.Step.init (feats m c) (graph m c)) n) i k
    have e4 : (fun r q => (refIter (Cert.ReferenceIdeal.Step.init (feats m c) (graph m c)) (n + 1)).main_v127_4 (ix2 r q)) = _ :=
      funext fun r => funext fun q => Cert.ReferenceIdeal.Step.step_product ⟨n, h⟩
        (refIter (Cert.ReferenceIdeal.Step.init (feats m c) (graph m c)) n) r q
    rw [e3, e4, panel_succ _ h]
    exact Inv.step (j := ⟨n, h⟩) le_wide le_rows Cert.KernelIdeal.Panel.le_pad ih

/-- The kernel's result, entry by entry. -/
theorem result_eq : Cert.KernelIdeal.Panel.result m ρ c
    = (refIter (Cert.ReferenceIdeal.Step.init (feats m c) (graph m c)) 128).main_v127_4 := by
  refine funext fun i => ?_
  rw [eq_ix2 i]
  refine (Cert.KernelIdeal.Panel.result_entry m ρ c (i 0) (i 1)).trans ?_
  exact Inv.final le_wide (related m ρ c 128 le_rfl) (i 0) (i 1)

end

/-- From memories that agree on the features and the edges, the kernel and the reference end with the same result. -/
theorem algebraic : Cert.algebraic_KernelIdeal_ReferenceIdeal := fun m ρ m' ρ' _ hagree =>
  ⟨fun c => Cert.KernelIdeal.Panel.result m ρ c, Cert.KernelIdeal.Panel.run m ρ, by
    refine (θ_run Cert.ReferenceIdeal.defs _ _).mono (fun r h c => ?_)
      (Cert.ReferenceIdeal.StepRun.run_iter m' ρ' (fun c => refIter (Cert.ReferenceIdeal.StepRun.initState m' c)) (fun _ => rfl)
        (fun _ _ => rfl))
    refine ⟨(h c).1.trans ?_, (h c).2⟩
    have e : Cert.ReferenceIdeal.StepRun.initState m' c = Cert.ReferenceIdeal.Step.init (feats m c) (graph m c) :=
      congrArg₂ (Cert.ReferenceIdeal.Step.init (F := Ideal)) (hagree c).1 (hagree c).2
    rw [e]
    exact (result_eq m ρ c).symm⟩

end Cert.Whole
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.StepRun
public import proofs.«01_k».proof.Proof.Qr.Whole
public import Idealize.ShloMosaic.Lib.Quiescent

@[expose] public section

noncomputable section

namespace Cert.Proof

open Idealize.ShloMosaic Idealize.SL.Sem

/-- The reference leaves its arguments as they were and no semaphore raised. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.Whole.algebraic⟩

end Cert.Proof

end
